-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S16384x24 : Shape := ⟨2, ![16384, 24]⟩
abbrev S38x100 : Shape := ⟨2, ![38, 100]⟩
abbrev S241x100 : Shape := ⟨2, ![241, 100]⟩
abbrev S512x816 : Shape := ⟨2, ![512, 816]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S16384x8 : Shape := ⟨2, ![16384, 8]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x100 : Shape := ⟨2, ![16384, 100]⟩
abbrev S16384x16 : Shape := ⟨2, ![16384, 16]⟩
abbrev S16384x816 : Shape := ⟨2, ![16384, 816]⟩
abbrev S816x512 : Shape := ⟨2, ![816, 512]⟩
abbrev S16384x512 : Shape := ⟨2, ![16384, 512]⟩
abbrev S1x512 : Shape := ⟨2, ![1, 512]⟩
abbrev S512x256 : Shape := ⟨2, ![512, 256]⟩
abbrev S16384x256 : Shape := ⟨2, ![16384, 256]⟩
abbrev S1x256 : Shape := ⟨2, ![1, 256]⟩
abbrev S256x128 : Shape := ⟨2, ![256, 128]⟩
abbrev S16384x128 : Shape := ⟨2, ![16384, 128]⟩
abbrev S16384x2 : Shape := ⟨2, ![16384, 2]⟩
abbrev S16384x6 : Shape := ⟨2, ![16384, 6]⟩
abbrev S16384x520 : Shape := ⟨2, ![16384, 520]⟩

class Facts : Prop where
  slices_S16384x24_S16384x8_0_0 : S16384x24.Slices ![0, 0] S16384x8
  slices_S16384x8_S16384x1_0_0 : S16384x8.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x100_0 : S16384.BroadcastsInDim S16384x100 (![0] : Fin 1 → Fin S16384x100.rank)
  bcast_S_S16384x100 : S_.BroadcastsInDim S16384x100 (![] : Fin 0 → Fin S16384x100.rank)
  slices_S16384x8_S16384x1_0_1 : S16384x8.Slices ![0, 1] S16384x1
  slices_S16384x8_S16384x1_0_2 : S16384x8.Slices ![0, 2] S16384x1
  slices_S16384x8_S16384x1_0_3 : S16384x8.Slices ![0, 3] S16384x1
  slices_S16384x8_S16384x1_0_4 : S16384x8.Slices ![0, 4] S16384x1
  slices_S16384x8_S16384x1_0_5 : S16384x8.Slices ![0, 5] S16384x1
  slices_S16384x8_S16384x1_0_6 : S16384x8.Slices ![0, 6] S16384x1
  slices_S16384x8_S16384x1_0_7 : S16384x8.Slices ![0, 7] S16384x1
  slices_S16384x24_S16384x16_0_8 : S16384x24.Slices ![0, 8] S16384x16
  concatenates_S16384x100_S16384x100_S16384x100_S16384x100_S16384x100_S16384x100_S16384x100_S16384x100_S16384x16_S16384x816_d1 : Shape.Concatenates [S16384x100, S16384x100, S16384x100, S16384x100, S16384x100, S16384x100, S16384x100, S16384x100, S16384x16] S16384x816 1
  transposes_S512x816_S816x512_1_0 : S512x816.Transposes [1, 0] S816x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x8 : S_.BroadcastsInDim S16384x8 (![] : Fin 0 → Fin S16384x8.rank)
  slices_S16384x8_S16384x2_0_0 : S16384x8.Slices ![0, 0] S16384x2
  bcast_S_S16384x2 : S_.BroadcastsInDim S16384x2 (![] : Fin 0 → Fin S16384x2.rank)
  slices_S16384x8_S16384x6_0_2 : S16384x8.Slices ![0, 2] S16384x6
  bcast_S_S16384x6 : S_.BroadcastsInDim S16384x6 (![] : Fin 0 → Fin S16384x6.rank)
  bcast_S_S16384x128 : S_.BroadcastsInDim S16384x128 (![] : Fin 0 → Fin S16384x128.rank)
  concatenates_S16384x2_S16384x6_S16384x256_S16384x128_S16384x128_S16384x520_d1 : Shape.Concatenates [S16384x2, S16384x6, S16384x256, S16384x128, S16384x128] S16384x520 1
  gather_S38x100_S16384x1_S16384x100_1_0_n_n_0_1_1100_wf : GatherDims.WF S38x100 S16384x1 S16384x100 [1] [0] [] [0] [] 1 ![1, 100]
  gather_S241x100_S16384x1_S16384x100_1_0_n_n_0_1_1100_wf : GatherDims.WF S241x100 S16384x1 S16384x100 [1] [0] [] [0] [] 1 ![1, 100]
  dot_S16384x816_S816x512_S16384x512_1_0_0_1_n_n_wf : DotDims.WF S16384x816 S816x512 S16384x512 [1] [0] [0] [1] [] []
  dot_S16384x512_S512x256_S16384x256_1_0_0_1_n_n_wf : DotDims.WF S16384x512 S512x256 S16384x256 [1] [0] [0] [1] [] []
  dot_S16384x256_S256x128_S16384x128_1_0_0_1_n_n_wf : DotDims.WF S16384x256 S256x128 S16384x128 [1] [0] [0] [1] [] []

variable [Facts]

def gather_S38x100_S16384x1_S16384x100_1_0_n_n_0_1_1100 : GatherDims S38x100 S16384x1 S16384x100 where
  offsetDims := [1]
  collapsedSliceDims := [0]
  operandBatchingDims := []
  startIndicesBatchingDims := []
  startIndexMap := [0]
  indexVectorDim := 1
  sliceSizes := ![1, 100]
  wf := gather_S38x100_S16384x1_S16384x100_1_0_n_n_0_1_1100_wf
def gather_S241x100_S16384x1_S16384x100_1_0_n_n_0_1_1100 : GatherDims S241x100 S16384x1 S16384x100 where
  offsetDims := [1]
  collapsedSliceDims := [0]
  operandBatchingDims := []
  startIndicesBatchingDims := []
  startIndexMap := [0]
  indexVectorDim := 1
  sliceSizes := ![1, 100]
  wf := gather_S241x100_S16384x1_S16384x100_1_0_n_n_0_1_1100_wf
def dot_S16384x816_S816x512_S16384x512_1_0_0_1_n_n : DotDims S16384x816 S816x512 S16384x512 where
  lhsContracting := [1]
  rhsContracting := [0]
  lhsNonContracting := [0]
  rhsNonContracting := [1]
  lhsBatch := []
  rhsBatch := []
  wf := dot_S16384x816_S816x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def fn_where {F : FTy → Type} [FloatOps F] (arg0 : IVec S16384 1) (arg1 : IVec S16384 32) (arg2 : IVec S16384 32) : IVec S16384 32 :=
  let v0 : IVec S16384 32 := select arg0 arg1 arg2
  v0

def fn_take {F : FTy → Type} [FloatOps F] (arg0 : FVec F S38x100 .f32) (arg1 : IVec S16384 32) : FVec F S16384x100 .f32 :=
  let c : IVec S_ 32 := constantI S_ 32 0#32
  let v0 : IVec S16384 32 := broadcastInDim S16384 ![] bcast_S_S16384 c
  let v1 : IVec S16384 1 := cmpi .slt arg1 v0
  let c_0 : IVec S_ 32 := constantI S_ 32 38#32
  let v2 : IVec S16384 32 := broadcastInDim S16384 ![] bcast_S_S16384 c_0
  let v3 : IVec S16384 32 := addi arg1 v2
  let v4 : IVec S16384 32 := fn_where (F := F) v1 v3 arg1
  let v5 : IVec S16384x1 32 := broadcastInDim S16384x1 ![0] bcast_S16384_S16384x1_0 v4
  let c_1 : IVec S1 32 := constantI S1 32 37#32
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  let v12 : IVec S16384 1 := (fun x v => Host.reduce IntOp.andi x v reducesTo_S16384x1_S16384_d1 h_S_) v11 c_3
  let v13 : FVec F S16384x100 .f32 := (fun x i => Host.gather gather_S38x100_S16384x1_S16384x100_1_0_n_n_0_1_1100 x i) arg0 v5
  let v14 : IVec S16384x100 1 := broadcastInDim S16384x100 ![0] bcast_S16384_S16384x100_0 v12
  let cst : FVec F S_ .f32 := constant S_ .f32 0x7FC00000#32
  let v15 : FVec F S16384x100 .f32 := broadcastInDim S16384x100 ![] bcast_S_S16384x100 cst
  let v16 : FVec F S16384x100 .f32 := select v14 v13 v15
  v16

def fn_take_0 {F : FTy → Type} [FloatOps F] (arg0 : FVec F S241x100 .f32) (arg1 : IVec S16384 32) : FVec F S16384x100 .f32 :=
  let c : IVec S_ 32 := constantI S_ 32 0#32
  let v0 : IVec S16384 32 := broadcastInDim S16384 ![] bcast_S_S16384 c
  let v1 : IVec S16384 1 := cmpi .slt arg1 v0
  let c_0 : IVec S_ 32 := constantI S_ 32 241#32
  let v2 : IVec S16384 32 := broadcastInDim S16384 ![] bcast_S_S16384 c_0
  let v3 : IVec S16384 32 := addi arg1 v2
  let v4 : IVec S16384 32 := fn_where (F := F) v1 v3 arg1
  let v5 : IVec S16384x1 32 := broadcastInDim S16384x1 ![0] bcast_S16384_S16384x1_0 v4
  let c_1 : IVec S1 32 := constantI S1 32 240#32
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  let v12 : IVec S16384 1 := (fun x v => Host.reduce IntOp.andi x v reducesTo_S16384x1_S16384_d1 h_S_) v11 c_3
  let v13 : FVec F S16384x100 .f32 := (fun x i => Host.gather gather_S241x100_S16384x1_S16384x100_1_0_n_n_0_1_1100 x i) arg0 v5
  let v14 : IVec S16384x100 1 := broadcastInDim S16384x100 ![0] bcast_S16384_S16384x100_0 v12
  let cst : FVec F S_ .f32 := constant S_ .f32 0x7FC00000#32
  let v15 : FVec F S16384x100 .f32 := broadcastInDim S16384x100 ![] bcast_S_S16384x100 cst
  let v16 : FVec F S16384x100 .f32 := select v14 v13 v15
  v16

def fn_softplus {F : FTy → Type} [FloatOps F] (arg0 : FVec F S16384x256 .f32) : FVec F S16384x256 .f32 :=
  let cst : FVec F S_ .f32 := constant S_ .f32 0x00000000#32
  let v0 : FVec F S16384x256 .f32 := broadcastInDim S16384x256 ![] bcast_S_S16384x256 cst
  let v1 : FVec F S16384x256 .f32 := maximumf arg0 v0
  let v2 : FVec F S16384x256 .f32 := broadcastInDim S16384x256 ![] bcast_S_S16384x256 cst
  let v3 : FVec F S16384x256 .f32 := subf arg0 v2
  let v4 : IVec S16384x256 1 := cmpf .une v3 v3
  let v5 : FVec F S16384x256 .f32 := broadcastInDim S16384x256 ![] bcast_S_S16384x256 cst
  let v6 : FVec F S16384x256 .f32 := addf arg0 v5
  let v7 : FVec F S16384x256 .f32 := Host.absf v3
  let v8 : FVec F S16384x256 .f32 := Host.negf v7
  let v9 : FVec F S16384x256 .f32 := Host.exp v8
  let v10 : FVec F S16384x256 .f32 := Host.log1p v9
  let v11 : FVec F S16384x256 .f32 := addf v1 v10
  let v12 : FVec F S16384x256 .f32 := select v4 v6 v11
  v12

def fn_part3 {F : FTy → Type} [FloatOps F] (main_v38 : FVec F S16384x256 .f32) (main_v46 : FVec F S16384x128 .f32) (main_v51 : FVec F S16384x128 .f32) (main_v62 : IVec S16384x2 1) (main_v67 : IVec S16384x6 1) (main_cst : FVec F S_ .f32) : IVec S16384x520 1 :=
  let main_v68 : FVec F S16384x256 .f32 := broadcastInDim S16384x256 ![] bcast_S_S16384x256 main_cst
  let main_v69 : IVec S16384x256 1 := cmpf .ole main_v38 main_v68
  let main_cst_2 : FVec F S_ .f32 := constant S_ .f32 0x41A00000#32
  let main_v70 : FVec F S16384x128 .f32 := broadcastInDim S16384x128 ![] bcast_S_S16384x128 main_cst_2
  let main_v71 : IVec S16384x128 1 := cmpf .ole main_v46 main_v70
  let main_cst_3 : FVec F S_ .f32 := constant S_ .f32 0x41A00000#32
  let main_v72 : FVec F S16384x128 .f32 := broadcastInDim S16384x128 ![] bcast_S_S16384x128 main_cst_3
  let main_v73 : IVec S16384x128 1 := cmpf .ole main_v51 main_v72
  let main_v74 : IVec S16384x520 1 := concatenate S16384x520 1 [⟨S16384x2, main_v62⟩, ⟨S16384x6, main_v67⟩, ⟨S16384x256, main_v69⟩, ⟨S16384x128, main_v71⟩, ⟨S16384x128, main_v73⟩] concatenates_S16384x2_S16384x6_S16384x256_S16384x128_S16384x128_S16384x520_d1
  main_v74

def fn_part2 {F : FTy → Type} [FloatOps F] (main_arg0 : FVec F S16384x24 .f32) (main_arg10 : FVec F S128 .f32) (main_v1 : IVec S16384x8 32) (main_v38 : FVec F S16384x256 .f32) (main_v41 : FVec F S16384x256 .f32) (main_v46 : FVec F S16384x128 .f32) (main_v47 : FVec F S256x128 .f32) : IVec S16384x520 1 :=
  let main_v48 : FVec F S16384x128 .f32 := (fun l r => Host.dotGeneral dot_S16384x256_S256x128_S16384x128_1_0_0_1_n_n none l r) main_v41 main_v47
  let main_v49 : FVec F S1x128 .f32 := broadcastInDim S1x128 ![1] bcast_S128_S1x128_1 main_arg10
  let main_v50 : FVec F S16384x128 .f32 := broadcastInDim S16384x128 ![0, 1] bcast_S1x128_S16384x128_0_1 main_v49
  let main_v51 : FVec F S16384x128 .f32 := addf main_v48 main_v50
  let main_v52 : FVec F S16384x8 .f32 := (extractStridedSlice S16384x8 ![0, 0] · slices_S16384x24_S16384x8_0_0) main_arg0
  let main_v53 : FVec F S16384x8 .f32 := sitofp .f32 main_v1
  let main_v54 : IVec S16384x8 1 := cmpf .oeq main_v52 main_v53
  let main_c : IVec S_ 32 := constantI S_ 32 0#32
  let main_v55 : IVec S16384x8 32 := broadcastInDim S16384x8 ![] bcast_S_S16384x8 main_c
  let main_v56 : IVec S16384x8 1 := cmpi .sge main_v1 main_v55
  let main_v57 : IVec S16384x8 1 := andi main_v54 main_v56
  let main_v58 : IVec S16384x2 1 := (extractStridedSlice S16384x2 ![0, 0] · slices_S16384x8_S16384x2_0_0) main_v57
  let main_v59 : IVec S16384x2 32 := (extractStridedSlice S16384x2 ![0, 0] · slices_S16384x8_S16384x2_0_0) main_v1
  let main_c_0 : IVec S_ 32 := constantI S_ 32 38#32
  let main_v60 : IVec S16384x2 32 := broadcastInDim S16384x2 ![] bcast_S_S16384x2 main_c_0
  let main_v61 : IVec S16384x2 1 := cmpi .slt main_v59 main_v60
  let main_v62 : IVec S16384x2 1 := andi main_v58 main_v61
  let main_v63 : IVec S16384x6 1 := (extractStridedSlice S16384x6 ![0, 2] · slices_S16384x8_S16384x6_0_2) main_v57
  let main_v64 : IVec S16384x6 32 := (extractStridedSlice S16384x6 ![0, 2] · slices_S16384x8_S16384x6_0_2) main_v1
  let main_c_1 : IVec S_ 32 := constantI S_ 32 241#32
  let main_v65 : IVec S16384x6 32 := broadcastInDim S16384x6 ![] bcast_S_S16384x6 main_c_1
  let main_v66 : IVec S16384x6 1 := cmpi .slt main_v64 main_v65
  let main_v67 : IVec S16384x6 1 := andi main_v63 main_v66
  let main_cst : FVec F S_ .f32 := constant S_ .f32 0x41A00000#32
  fn_part3 (F := F) main_v38 main_v46 main_v51 main_v62 main_v67 main_cst

def fn_part1 {F : FTy → Type} [FloatOps F] (main_arg0 : FVec F S16384x24 .f32) (main_arg2 : FVec F S241x100 .f32) (main_arg3 : FVec F S512x816 .f32) (main_arg4 : FVec F S512 .f32) (main_arg5 : FVec F S256x512 .f32) (main_arg6 : FVec F S256 .f32) (main_arg7 : FVec F S128x256 .f32) (main_arg8 : FVec F S128 .f32) (main_arg9 : FVec F S128x256 .f32) (main_arg10 : FVec F S128 .f32) (main_v1 : IVec S16384x8 32) (main_v4 : FVec F S16384x100 .f32) (main_v7 : FVec F S16384x100 .f32) (main_v10 : FVec F S16384x100 .f32) (main_v13 : FVec F S16384x100 .f32) (main_v16 : FVec F S16384x100 .f32) (main_v19 : FVec F S16384x100 .f32) (main_v22 : FVec F S16384x100 .f32) (main_v23 : IVec S16384x1 32) : IVec S16384x520 1 :=
  let main_v24 : IVec S16384 32 := shapeCast S16384 main_v23 shapeCasts_S16384x1_S16384
  let main_v25 : FVec F S16384x100 .f32 := fn_take_0 (F := F) main_arg2 main_v24
  let main_v26 : FVec F S16384x16 .f32 := (extractStridedSlice S16384x16 ![0, 8] · slices_S16384x24_S16384x16_0_8) main_arg0
  let main_v27 : FVec F S16384x816 .f32 := concatenate S16384x816 1 [⟨S16384x100, main_v4⟩, ⟨S16384x100, main_v7⟩, ⟨S16384x100, main_v10⟩, ⟨S16384x100, main_v13⟩, ⟨S16384x100, main_v16⟩, ⟨S16384x100, main_v19⟩, ⟨S16384x100, main_v22⟩, ⟨S16384x100, main_v25⟩, ⟨S16384x16, main_v26⟩] concatenates_S16384x100_S16384x100_S16384x100_S16384x100_S16384x100_S16384x100_S16384x100_S16384x100_S16384x16_S16384x816_d1
  let main_v28 : FVec F S816x512 .f32 := (transpose S816x512 [1, 0] · transposes_S512x816_S816x512_1_0) main_arg3
  let main_v29 : FVec F S16384x512 .f32 := (fun l r => Host.dotGeneral dot_S16384x816_S816x512_S16384x512_1_0_0_1_n_n none l r) main_v27 main_v28
  let main_v30 : FVec F S1x512 .f32 := broadcastInDim S1x512 ![1] bcast_S512_S1x512_1 main_arg4
  let main_v31 : FVec F S16384x512 .f32 := broadcastInDim S16384x512 ![0, 1] bcast_S1x512_S16384x512_0_1 main_v30
  let main_v32 : FVec F S16384x512 .f32 := addf main_v29 main_v31
  let main_v33 : FVec F S16384x512 .f32 := Host.tanh main_v32
  let main_v34 : FVec F S512x256 .f32 := (transpose S512x256 [1, 0] · transposes_S256x512_S512x256_1_0) main_arg5
  let main_v35 : FVec F S16384x256 .f32 := (fun l r => Host.dotGeneral dot_S16384x512_S512x256_S16384x256_1_0_0_1_n_n none l r) main_v33 main_v34
  let main_v36 : FVec F S1x256 .f32 := broadcastInDim S1x256 ![1] bcast_S256_S1x256_1 main_arg6
  let main_v37 : FVec F S16384x256 .f32 := broadcastInDim S16384x256 ![0, 1] bcast_S1x256_S16384x256_0_1 main_v36
  let main_v38 : FVec F S16384x256 .f32 := addf main_v35 main_v37
  let main_v39 : FVec F S16384x256 .f32 := fn_softplus (F := F) main_v38
  let main_v40 : FVec F S16384x256 .f32 := Host.tanh main_v39
  let main_v41 : FVec F S16384x256 .f32 := mulf main_v38 main_v40
  let main_v42 : FVec F S256x128 .f32 := (transpose S256x128 [1, 0] · transposes_S128x256_S256x128_1_0) main_arg7
  let main_v43 : FVec F S16384x128 .f32 := (fun l r => Host.dotGeneral dot_S16384x256_S256x128_S16384x128_1_0_0_1_n_n none l r) main_v41 main_v42
  let main_v44 : FVec F S1x128 .f32 := broadcastInDim S1x128 ![1] bcast_S128_S1x128_1 main_arg8
  let main_v45 : FVec F S16384x128 .f32 := broadcastInDim S16384x128 ![0, 1] bcast_S1x128_S16384x128_0_1 main_v44
  let main_v46 : FVec F S16384x128 .f32 := addf main_v43 main_v45
  let main_v47 : FVec F S256x128 .f32 := (transpose S256x128 [1, 0] · transposes_S128x256_S256x128_1_0) main_arg9
  fn_part2 (F := F) main_arg0 main_arg10 main_v1 main_v38 main_v41 main_v46 main_v47

def fn {F : FTy → Type} [FloatOps F] (main_arg0 : FVec F S16384x24 .f32) (main_arg1 : FVec F S38x100 .f32) (main_arg2 : FVec F S241x100 .f32) (main_arg3 : FVec F S512x816 .f32) (main_arg4 : FVec F S512 .f32) (main_arg5 : FVec F S256x512 .f32) (main_arg6 : FVec F S256 .f32) (main_arg7 : FVec F S128x256 .f32) (main_arg8 : FVec F S128 .f32) (main_arg9 : FVec F S128x256 .f32) (main_arg10 : FVec F S128 .f32) (main_arg11 : FVec F S1x128 .f32) (main_arg12 : FVec F S1 .f32) (main_arg13 : FVec F S1x128 .f32) (main_arg14 : FVec F S1 .f32) : IVec S16384x520 1 :=
  let main_v0 : FVec F S16384x8 .f32 := (extractStridedSlice S16384x8 ![0, 0] · slices_S16384x24_S16384x8_0_0) main_arg0
  let main_v1 : IVec S16384x8 32 := fptosi 32 main_v0
  let main_v2 : IVec S16384x1 32 := (extractStridedSlice S16384x1 ![0, 0] · slices_S16384x8_S16384x1_0_0) main_v1
  let main_v3 : IVec S16384 32 := shapeCast S16384 main_v2 shapeCasts_S16384x1_S16384
  let main_v4 : FVec F S16384x100 .f32 := fn_take (F := F) main_arg1 main_v3
  let main_v5 : IVec S16384x1 32 := (extractStridedSlice S16384x1 ![0, 1] · slices_S16384x8_S16384x1_0_1) main_v1
  let main_v6 : IVec S16384 32 := shapeCast S16384 main_v5 shapeCasts_S16384x1_S16384
  let main_v7 : FVec F S16384x100 .f32 := fn_take (F := F) main_arg1 main_v6
  let main_v8 : IVec S16384x1 32 := (extractStridedSlice S16384x1 ![0, 2] · slices_S16384x8_S16384x1_0_2) main_v1
  let main_v9 : IVec S16384 32 := shapeCast S16384 main_v8 shapeCasts_S16384x1_S16384
  let main_v10 : FVec F S16384x100 .f32 := fn_take_0 (F := F) main_arg2 main_v9
  let main_v11 : IVec S16384x1 32 := (extractStridedSlice S16384x1 ![0, 3] · slices_S16384x8_S16384x1_0_3) main_v1
  let main_v12 : IVec S16384 32 := shapeCast S16384 main_v11 shapeCasts_S16384x1_S16384
  let main_v13 : FVec F S16384x100 .f32 := fn_take_0 (F := F) main_arg2 main_v12
  let main_v14 : IVec S16384x1 32 := (extractStridedSlice S16384x1 ![0, 4] · slices_S16384x8_S16384x1_0_4) main_v1
  let main_v15 : IVec S16384 32 := shapeCast S16384 main_v14 shapeCasts_S16384x1_S16384
  let main_v16 : FVec F S16384x100 .f32 := fn_take_0 (F := F) main_arg2 main_v15
  let main_v17 : IVec S16384x1 32 := (extractStridedSlice S16384x1 ![0, 5] · slices_S16384x8_S16384x1_0_5) main_v1
  let main_v18 : IVec S16384 32 := shapeCast S16384 main_v17 shapeCasts_S16384x1_S16384
  let main_v19 : FVec F S16384x100 .f32 := fn_take_0 (F := F) main_arg2 main_v18
  let main_v20 : IVec S16384x1 32 := (extractStridedSlice S16384x1 ![0, 6] · slices_S16384x8_S16384x1_0_6) main_v1
  let main_v21 : IVec S16384 32 := shapeCast S16384 main_v20 shapeCasts_S16384x1_S16384
  let main_v22 : FVec F S16384x100 .f32 := fn_take_0 (F := F) main_arg2 main_v21
  let main_v23 : IVec S16384x1 32 := (extractStridedSlice S16384x1 ![0, 7] · slices_S16384x8_S16384x1_0_7) main_v1
  fn_part1 (F := F) main_arg0 main_arg2 main_arg3 main_arg4 main_arg5 main_arg6 main_arg7 main_arg8 main_arg9 main_arg10 main_v1 main_v4 main_v7 main_v10 main_v13 main_v16 main_v19 main_v22 main_v23
-- ==== Kernel.lean ====
abbrev S16384x24 : Shape := ⟨2, ![16384, 24]⟩
abbrev S38x100 : Shape := ⟨2, ![38, 100]⟩
abbrev S241x100 : Shape := ⟨2, ![241, 100]⟩
abbrev S512x816 : Shape := ⟨2, ![512, 816]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S24x16384 : Shape := ⟨2, ![24, 16384]⟩
abbrev S100x241 : Shape := ⟨2, ![100, 241]⟩
abbrev S816x512 : Shape := ⟨2, ![816, 512]⟩
abbrev S1x16384 : Shape := ⟨2, ![1, 16384]⟩
abbrev S24x4096 : Shape := ⟨2, ![24, 4096]⟩
abbrev S1x4096 : Shape := ⟨2, ![1, 4096]⟩
abbrev S100x38 : Shape := ⟨2, ![100, 38]⟩
abbrev S912x512 : Shape := ⟨2, ![912, 512]⟩
abbrev S912x4096 : Shape := ⟨2, ![912, 4096]⟩
abbrev S100x512 : Shape := ⟨2, ![100, 512]⟩
abbrev S16x512 : Shape := ⟨2, ![16, 512]⟩
abbrev S16x4096 : Shape := ⟨2, ![16, 4096]⟩
abbrev S38x1 : Shape := ⟨2, ![38, 1]⟩
abbrev S241x1 : Shape := ⟨2, ![241, 1]⟩
abbrev S2x4096 : Shape := ⟨2, ![2, 4096]⟩
abbrev S1x8192 : Shape := ⟨2, ![1, 8192]⟩
abbrev S6x4096 : Shape := ⟨2, ![6, 4096]⟩
abbrev S1x24576 : Shape := ⟨2, ![1, 24576]⟩
abbrev S38x8192 : Shape := ⟨2, ![38, 8192]⟩
abbrev S241x24576 : Shape := ⟨2, ![241, 24576]⟩
abbrev S100x8192 : Shape := ⟨2, ![100, 8192]⟩
abbrev S100x24576 : Shape := ⟨2, ![100, 24576]⟩
abbrev S100x4096 : Shape := ⟨2, ![100, 4096]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x128 : Shape := ⟨2, ![4096, 128]⟩
abbrev S1x1 : Shape := ⟨2, ![1, 1]⟩
abbrev S16384x1 : Shape := ⟨2, ![16384, 1]⟩

abbrev nBuf : Space → Nat
  | .hbm => 22
  | .vmem => 27
  | .smem => 0
  | _ => 0

abbrev bufTy : (tb : Table) → Fin (tcTables nBuf tb) → BufTy
  | .hbm, ⟨0, _⟩ => ⟨S16384x24, .f32⟩
  | .hbm, ⟨1, _⟩ => ⟨S38x100, .f32⟩
  | .hbm, ⟨2, _⟩ => ⟨S241x100, .f32⟩
  | .hbm, ⟨3, _⟩ => ⟨S512x816, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S1x128, .f32⟩
  | .hbm, ⟨12, _⟩ => ⟨S1, .f32⟩
  | .hbm, ⟨13, _⟩ => ⟨S1x128, .f32⟩
  | .hbm, ⟨14, _⟩ => ⟨S1, .f32⟩
  | .hbm, ⟨15, _⟩ => ⟨S24x16384, .f32⟩
  | .hbm, ⟨16, _⟩ => ⟨S100x241, .f32⟩
  | .hbm, ⟨17, _⟩ => ⟨S816x512, .f32⟩
  | .hbm, ⟨18, _⟩ => ⟨S1x16384, .f32⟩
  | .hbm, ⟨19, _⟩ => ⟨S1x16384, .f32⟩
  | .hbm, ⟨20, _⟩ => ⟨S16384x1, .f32⟩
  | .hbm, ⟨21, _⟩ => ⟨S16384x1, .f32⟩
  | .local _ .vmem, ⟨0, _⟩ => ⟨S24x4096, .f32⟩
  | .local _ .vmem, ⟨1, _⟩ => ⟨S24x4096, .f32⟩
  | .local _ .vmem, ⟨2, _⟩ => ⟨S38x100, .f32⟩
  | .local _ .vmem, ⟨3, _⟩ => ⟨S100x241, .f32⟩
  | .local _ .vmem, ⟨4, _⟩ => ⟨S816x512, .f32⟩
  | .local _ .vmem, ⟨5, _⟩ => ⟨S512, .f32⟩
  | .local _ .vmem, ⟨6, _⟩ => ⟨S256x512, .f32⟩
  | .local _ .vmem, ⟨7, _⟩ => ⟨S256, .f32⟩
  | .local _ .vmem, ⟨8, _⟩ => ⟨S128x256, .f32⟩
  | .local _ .vmem, ⟨9, _⟩ => ⟨S128, .f32⟩
  | .local _ .vmem, ⟨10, _⟩ => ⟨S128x256, .f32⟩
  | .local _ .vmem, ⟨11, _⟩ => ⟨S128, .f32⟩
  | .local _ .vmem, ⟨12, _⟩ => ⟨S1x128, .f32⟩
  | .local _ .vmem, ⟨13, _⟩ => ⟨S1, .f32⟩
  | .local _ .vmem, ⟨14, _⟩ => ⟨S1x128, .f32⟩
  | .local _ .vmem, ⟨15, _⟩ => ⟨S1, .f32⟩
  | .local _ .vmem, ⟨16, _⟩ => ⟨S1x4096, .f32⟩
  | .local _ .vmem, ⟨17, _⟩ => ⟨S1x4096, .f32⟩
  | .local _ .vmem, ⟨18, _⟩ => ⟨S1x4096, .f32⟩
  | .local _ .vmem, ⟨19, _⟩ => ⟨S1x4096, .f32⟩
  | .local _ .vmem, ⟨20, _⟩ => ⟨S100x38, .bf16⟩
  | .local _ .vmem, ⟨21, _⟩ => ⟨S100x241, .bf16⟩
  | .local _ .vmem, ⟨22, _⟩ => ⟨S912x512, .bf16⟩
  | .local _ .vmem, ⟨23, _⟩ => ⟨S912x4096, .bf16⟩
  | .local _ .vmem, ⟨24, _⟩ => ⟨S256x512, .bf16⟩
  | .local _ .vmem, ⟨25, _⟩ => ⟨S128x256, .bf16⟩
  | .local _ .vmem, ⟨26, _⟩ => ⟨S128x256, .bf16⟩
  | _, _ => ⟨S16384x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S24x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S38x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x241 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S816x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x24 : Shape := ⟨2, ![16384, 24]⟩
abbrev S38x100 : Shape := ⟨2, ![38, 100]⟩
abbrev S241x100 : Shape := ⟨2, ![241, 100]⟩
abbrev S512x816 : Shape := ⟨2, ![512, 816]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S16384x8 : Shape := ⟨2, ![16384, 8]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x100 : Shape := ⟨2, ![16384, 100]⟩
abbrev S16384x16 : Shape := ⟨2, ![16384, 16]⟩
abbrev S16384x816 : Shape := ⟨2, ![16384, 816]⟩
abbrev S816x512 : Shape := ⟨2, ![816, 512]⟩
abbrev S16384x512 : Shape := ⟨2, ![16384, 512]⟩
abbrev S1x512 : Shape := ⟨2, ![1, 512]⟩
abbrev S512x256 : Shape := ⟨2, ![512, 256]⟩
abbrev S16384x256 : Shape := ⟨2, ![16384, 256]⟩
abbrev S1x256 : Shape := ⟨2, ![1, 256]⟩
abbrev S256x128 : Shape := ⟨2, ![256, 128]⟩
abbrev S16384x128 : Shape := ⟨2, ![16384, 128]⟩
abbrev S128x1 : Shape := ⟨2, ![128, 1]⟩

abbrev nBuf : Space → Nat
  | .hbm => 307
  | .vmem => 0
  | .smem => 0
  | _ => 0

abbrev hbmTy0_0 (i : Nat) : BufTy := match i % 128 with
  | 0 => ⟨S16384x24, .f32⟩
  | 1 => ⟨S38x100, .f32⟩
  | 2 => ⟨S241x100, .f32⟩
  | 3 => ⟨S512x816, .f32⟩
  | 4 => ⟨S512, .f32⟩
  | 5 => ⟨S256x512, .f32⟩
  | 6 => ⟨S256, .f32⟩
  | 7 => ⟨S128x256, .f32⟩
  | 8 => ⟨S128, .f32⟩
  | 9 => ⟨S128x256, .f32⟩
  | 10 => ⟨S128, .f32⟩
  | 11 => ⟨S1x128, .f32⟩
  | 12 => ⟨S1, .f32⟩
  | 13 => ⟨S1x128, .f32⟩
  | 14 => ⟨S1, .f32⟩
  | 15 => ⟨S16384x8, .f32⟩
  | 16 => ⟨S16384x8, .i32⟩
  | 17 => ⟨S16384x1, .i32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S1, .i32⟩
  | 28 => ⟨S_, .i32⟩
  | 29 => ⟨S16384x1, .i32⟩
  | 30 => ⟨S16384x1, .i1⟩
  | 31 => ⟨S1x1, .i32⟩
  | 32 => ⟨S16384x1, .i32⟩
  | 33 => ⟨S16384x1, .i1⟩
  | 34 => ⟨S16384x1, .i1⟩
  | 35 => ⟨S_, .i1⟩
  | 36 => ⟨S16384, .i1⟩
  | 37 => ⟨S16384x100, .f32⟩
  | 38 => ⟨S16384x100, .i1⟩
  | 39 => ⟨S_, .f32⟩
  | 40 => ⟨S16384x100, .f32⟩
  | 41 => ⟨S16384x100, .f32⟩
  | 42 => ⟨S16384x1, .i32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S1, .i32⟩
  | 53 => ⟨S_, .i32⟩
  | 54 => ⟨S16384x1, .i32⟩
  | 55 => ⟨S16384x1, .i1⟩
  | 56 => ⟨S1x1, .i32⟩
  | 57 => ⟨S16384x1, .i32⟩
  | 58 => ⟨S16384x1, .i1⟩
  | 59 => ⟨S16384x1, .i1⟩
  | 60 => ⟨S_, .i1⟩
  | 61 => ⟨S16384, .i1⟩
  | 62 => ⟨S16384x100, .f32⟩
  | 63 => ⟨S16384x100, .i1⟩
  | 64 => ⟨S_, .f32⟩
  | 65 => ⟨S16384x100, .f32⟩
  | 66 => ⟨S16384x100, .f32⟩
  | 67 => ⟨S16384x1, .i32⟩
  | 68 => ⟨S16384, .i32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S1, .i32⟩
  | 78 => ⟨S_, .i32⟩
  | 79 => ⟨S16384x1, .i32⟩
  | 80 => ⟨S16384x1, .i1⟩
  | 81 => ⟨S1x1, .i32⟩
  | 82 => ⟨S16384x1, .i32⟩
  | 83 => ⟨S16384x1, .i1⟩
  | 84 => ⟨S16384x1, .i1⟩
  | 85 => ⟨S_, .i1⟩
  | 86 => ⟨S16384, .i1⟩
  | 87 => ⟨S16384x100, .f32⟩
  | 88 => ⟨S16384x100, .i1⟩
  | 89 => ⟨S_, .f32⟩
  | 90 => ⟨S16384x100, .f32⟩
  | 91 => ⟨S16384x100, .f32⟩
  | 92 => ⟨S16384x1, .i32⟩
  | 93 => ⟨S16384, .i32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x100, .f32⟩
  | 113 => ⟨S16384x100, .i1⟩
  | 114 => ⟨S_, .f32⟩
  | 115 => ⟨S16384x100, .f32⟩
  | 116 => ⟨S16384x100, .f32⟩
  | 117 => ⟨S16384x1, .i32⟩
  | 118 => ⟨S16384, .i32⟩
  | 119 => ⟨S_, .i32⟩
  | 120 => ⟨S16384, .i32⟩
  | 121 => ⟨S16384, .i1⟩
  | 122 => ⟨S_, .i32⟩
  | 123 => ⟨S16384, .i32⟩
  | 124 => ⟨S16384, .i32⟩
  | 125 => ⟨S16384, .i32⟩
  | 126 => ⟨S16384x1, .i32⟩
  | 127 => ⟨S1, .i32⟩
  | _ => ⟨S16384x24, .f32⟩

abbrev hbmTy0_1 (i : Nat) : BufTy := match i % 128 with
  | 0 => ⟨S_, .i32⟩
  | 1 => ⟨S16384x1, .i32⟩
  | 2 => ⟨S16384x1, .i1⟩
  | 3 => ⟨S1x1, .i32⟩
  | 4 => ⟨S16384x1, .i32⟩
  | 5 => ⟨S16384x1, .i1⟩
  | 6 => ⟨S16384x1, .i1⟩
  | 7 => ⟨S_, .i1⟩
  | 8 => ⟨S16384, .i1⟩
  | 9 => ⟨S16384x100, .f32⟩
  | 10 => ⟨S16384x100, .i1⟩
  | 11 => ⟨S_, .f32⟩
  | 12 => ⟨S16384x100, .f32⟩
  | 13 => ⟨S16384x100, .f32⟩
  | 14 => ⟨S16384x1, .i32⟩
  | 15 => ⟨S16384, .i32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S1, .i32⟩
  | 25 => ⟨S_, .i32⟩
  | 26 => ⟨S16384x1, .i32⟩
  | 27 => ⟨S16384x1, .i1⟩
  | 28 => ⟨S1x1, .i32⟩
  | 29 => ⟨S16384x1, .i32⟩
  | 30 => ⟨S16384x1, .i1⟩
  | 31 => ⟨S16384x1, .i1⟩
  | 32 => ⟨S_, .i1⟩
  | 33 => ⟨S16384, .i1⟩
  | 34 => ⟨S16384x100, .f32⟩
  | 35 => ⟨S16384x100, .i1⟩
  | 36 => ⟨S_, .f32⟩
  | 37 => ⟨S16384x100, .f32⟩
  | 38 => ⟨S16384x100, .f32⟩
  | 39 => ⟨S16384x1, .i32⟩
  | 40 => ⟨S16384, .i32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S1, .i32⟩
  | 50 => ⟨S_, .i32⟩
  | 51 => ⟨S16384x1, .i32⟩
  | 52 => ⟨S16384x1, .i1⟩
  | 53 => ⟨S1x1, .i32⟩
  | 54 => ⟨S16384x1, .i32⟩
  | 55 => ⟨S16384x1, .i1⟩
  | 56 => ⟨S16384x1, .i1⟩
  | 57 => ⟨S_, .i1⟩
  | 58 => ⟨S16384, .i1⟩
  | 59 => ⟨S16384x100, .f32⟩
  | 60 => ⟨S16384x100, .i1⟩
  | 61 => ⟨S_, .f32⟩
  | 62 => ⟨S16384x100, .f32⟩
  | 63 => ⟨S16384x100, .f32⟩
  | 64 => ⟨S16384x1, .i32⟩
  | 65 => ⟨S16384, .i32⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S1, .i32⟩
  | 75 => ⟨S_, .i32⟩
  | 76 => ⟨S16384x1, .i32⟩
  | 77 => ⟨S16384x1, .i1⟩
  | 78 => ⟨S1x1, .i32⟩
  | 79 => ⟨S16384x1, .i32⟩
  | 80 => ⟨S16384x1, .i1⟩
  | 81 => ⟨S16384x1, .i1⟩
  | 82 => ⟨S_, .i1⟩
  | 83 => ⟨S16384, .i1⟩
  | 84 => ⟨S16384x100, .f32⟩
  | 85 => ⟨S16384x100, .i1⟩
  | 86 => ⟨S_, .f32⟩
  | 87 => ⟨S16384x100, .f32⟩
  | 88 => ⟨S16384x100, .f32⟩
  | 89 => ⟨S16384x16, .f32⟩
  | 90 => ⟨S16384x816, .f32⟩
  | 91 => ⟨S816x512, .f32⟩
  | 92 => ⟨S16384x512, .f32⟩
  | 93 => ⟨S1x512, .f32⟩
  | 94 => ⟨S16384x512, .f32⟩
  | 95 => ⟨S16384x512, .f32⟩
  | 96 => ⟨S16384x512, .f32⟩
  | 97 => ⟨S512x256, .f32⟩
  | 98 => ⟨S16384x256, .f32⟩
  | 99 => ⟨S1x256, .f32⟩
  | 100 => ⟨S16384x256, .f32⟩
  | 101 => ⟨S16384x256, .f32⟩
  | 102 => ⟨S_, .f32⟩
  | 103 => ⟨S16384x256, .f32⟩
  | 104 => ⟨S16384x256, .f32⟩
  | 105 => ⟨S16384x256, .f32⟩
  | 106 => ⟨S16384x256, .f32⟩
  | 107 => ⟨S16384x256, .i1⟩
  | 108 => ⟨S16384x256, .f32⟩
  | 109 => ⟨S16384x256, .f32⟩
  | 110 => ⟨S16384x256, .f32⟩
  | 111 => ⟨S16384x256, .f32⟩
  | 112 => ⟨S16384x256, .f32⟩
  | 113 => ⟨S16384x256, .f32⟩
  | 114 => ⟨S16384x256, .f32⟩
  | 115 => ⟨S16384x256, .f32⟩
  | 116 => ⟨S16384x256, .f32⟩
  | 117 => ⟨S16384x256, .f32⟩
  | 118 => ⟨S256x128, .f32⟩
  | 119 => ⟨S16384x128, .f32⟩
  | 120 => ⟨S1x128, .f32⟩
  | 121 => ⟨S16384x128, .f32⟩
  | 122 => ⟨S16384x128, .f32⟩
  | 123 => ⟨S_, .f32⟩
  | 124 => ⟨S16384x128, .f32⟩
  | 125 => ⟨S16384x128, .f32⟩
  | 126 => ⟨S16384x128, .f32⟩
  | 127 => ⟨S16384x128, .f32⟩
  | _ => ⟨S16384x24, .f32⟩

abbrev hbmTy0_2 (i : Nat) : BufTy := match i % 128 with
  | 0 => ⟨S16384x128, .i1⟩
  | 1 => ⟨S16384x128, .f32⟩
  | 2 => ⟨S16384x128, .f32⟩
  | 3 => ⟨S16384x128, .f32⟩
  | 4 => ⟨S16384x128, .f32⟩
  | 5 => ⟨S16384x128, .f32⟩
  | 6 => ⟨S16384x128, .f32⟩
  | 7 => ⟨S16384x128, .f32⟩
  | 8 => ⟨S16384x128, .f32⟩
  | 9 => ⟨S16384x128, .f32⟩
  | 10 => ⟨S16384x128, .f32⟩
  | 11 => ⟨S256x128, .f32⟩
  | 12 => ⟨S16384x128, .f32⟩
  | 13 => ⟨S1x128, .f32⟩
  | 14 => ⟨S16384x128, .f32⟩
  | 15 => ⟨S16384x128, .f32⟩
  | 16 => ⟨S_, .f32⟩
  | 17 => ⟨S16384x128, .f32⟩
  | 18 => ⟨S16384x128, .f32⟩
  | 19 => ⟨S16384x128, .f32⟩
  | 20 => ⟨S16384x128, .f32⟩
  | 21 => ⟨S16384x128, .i1⟩
  | 22 => ⟨S16384x128, .f32⟩
  | 23 => ⟨S16384x128, .f32⟩
  | 24 => ⟨S16384x128, .f32⟩
  | 25 => ⟨S16384x128, .f32⟩
  | 26 => ⟨S16384x128, .f32⟩
  | 27 => ⟨S16384x128, .f32⟩
  | 28 => ⟨S16384x128, .f32⟩
  | 29 => ⟨S16384x128, .f32⟩
  | 30 => ⟨S16384x128, .f32⟩
  | 31 => ⟨S16384x128, .f32⟩
  | 32 => ⟨S128x1, .f32⟩
  | 33 => ⟨S16384x1, .f32⟩
  | 34 => ⟨S1x1, .f32⟩
  | 35 => ⟨S16384x1, .f32⟩
  | 36 => ⟨S16384x1, .f32⟩
  | 37 => ⟨S16384x1, .f32⟩
  | 38 => ⟨S16384x1, .f32⟩
  | 39 => ⟨S_, .f32⟩
  | 40 => ⟨S16384x1, .f32⟩
  | 41 => ⟨S16384x1, .f32⟩
  | 42 => ⟨S_, .f32⟩
  | 43 => ⟨S16384x1, .f32⟩
  | 44 => ⟨S16384x1, .f32⟩
  | 45 => ⟨S128x1, .f32⟩
  | 46 => ⟨S16384x1, .f32⟩
  | 47 => ⟨S1x1, .f32⟩
  | 48 => ⟨S16384x1, .f32⟩
  | 49 => ⟨S16384x1, .f32⟩
  | 50 => ⟨S16384x1, .f32⟩
  | _ => ⟨S16384x24, .f32⟩

abbrev hbmTy (i : Nat) : BufTy := match i / 128 with
  | 0 => hbmTy0_0 i
  | 1 => hbmTy0_1 i
  | 2 => hbmTy0_2 i
  | _ => ⟨S16384x24, .f32⟩

abbrev bufTy : (tb : Table) → Fin (tcTables nBuf tb) → BufTy
  | .hbm, ⟨i, _⟩ => hbmTy i
  | _, _ => ⟨S16384x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v10 : Ref sig .tc := ⟨.hbm, 91, rfl⟩
abbrev main_v11 : Ref sig .tc := ⟨.hbm, 92, rfl⟩
abbrev main_v12 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v13 : Ref sig .tc := ⟨.hbm, 116, rfl⟩
abbrev main_v14 : Ref sig .tc := ⟨.hbm, 117, rfl⟩
abbrev main_v15 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_cst : Ref sig .tc := ⟨.hbm, 139, rfl⟩
abbrev main_call4_v15 : Ref sig .tc := ⟨.hbm, 140, rfl⟩
abbrev main_v16 : Ref sig .tc := ⟨.hbm, 141, rfl⟩
abbrev main_v17 : Ref sig .tc := ⟨.hbm, 142, rfl⟩
abbrev main_v18 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_c_1 : Ref sig .tc := ⟨.hbm, 152, rfl⟩
abbrev main_call5_c_2 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_c_3 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_call5_cst : Ref sig .tc := ⟨.hbm, 164, rfl⟩
abbrev main_call5_v15 : Ref sig .tc := ⟨.hbm, 165, rfl⟩
abbrev main_v19 : Ref sig .tc := ⟨.hbm, 166, rfl⟩
abbrev main_v20 : Ref sig .tc := ⟨.hbm, 167, rfl⟩
abbrev main_v21 : Ref sig .tc := ⟨.hbm, 168, rfl⟩
abbrev main_call6_c : Ref sig .tc := ⟨.hbm, 169, rfl⟩
abbrev main_call6_v0 : Ref sig .tc := ⟨.hbm, 170, rfl⟩
abbrev main_call6_v1 : Ref sig .tc := ⟨.hbm, 171, rfl⟩
abbrev main_call6_c_0 : Ref sig .tc := ⟨.hbm, 172, rfl⟩
abbrev main_call6_v2 : Ref sig .tc := ⟨.hbm, 173, rfl⟩
abbrev main_call6_v3 : Ref sig .tc := ⟨.hbm, 174, rfl⟩
abbrev main_call6_v4 : Ref sig .tc := ⟨.hbm, 175, rfl⟩
abbrev main_call6_v5 : Ref sig .tc := ⟨.hbm, 176, rfl⟩
abbrev main_call6_c_1 : Ref sig .tc := ⟨.hbm, 177, rfl⟩
abbrev main_call6_c_2 : Ref sig .tc := ⟨.hbm, 178, rfl⟩
abbrev main_call6_v6 : Ref sig .tc := ⟨.hbm, 179, rfl⟩
abbrev main_call6_v7 : Ref sig .tc := ⟨.hbm, 180, rfl⟩
abbrev main_call6_v8 : Ref sig .tc := ⟨.hbm, 181, rfl⟩
abbrev main_call6_v9 : Ref sig .tc := ⟨.hbm, 182, rfl⟩
abbrev main_call6_v10 : Ref sig .tc := ⟨.hbm, 183, rfl⟩
abbrev main_call6_v11 : Ref sig .tc := ⟨.hbm, 184, rfl⟩
abbrev main_call6_c_3 : Ref sig .tc := ⟨.hbm, 185, rfl⟩
abbrev main_call6_v12 : Ref sig .tc := ⟨.hbm, 186, rfl⟩
abbrev main_call6_v13 : Ref sig .tc := ⟨.hbm, 187, rfl⟩
abbrev main_call6_v14 : Ref sig .tc := ⟨.hbm, 188, rfl⟩
abbrev main_call6_cst : Ref sig .tc := ⟨.hbm, 189, rfl⟩
abbrev main_call6_v15 : Ref sig .tc := ⟨.hbm, 190, rfl⟩
abbrev main_v22 : Ref sig .tc := ⟨.hbm, 191, rfl⟩
abbrev main_v23 : Ref sig .tc := ⟨.hbm, 192, rfl⟩
abbrev main_v24 : Ref sig .tc := ⟨.hbm, 193, rfl⟩
abbrev main_call7_c : Ref sig .tc := ⟨.hbm, 194, rfl⟩
abbrev main_call7_v0 : Ref sig .tc := ⟨.hbm, 195, rfl⟩
abbrev main_call7_v1 : Ref sig .tc := ⟨.hbm, 196, rfl⟩
abbrev main_call7_c_0 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_call7_v5 : Ref sig .tc := ⟨.hbm, 201, rfl⟩
abbrev main_call7_c_1 : Ref sig .tc := ⟨.hbm, 202, rfl⟩
abbrev main_call7_c_2 : Ref sig .tc := ⟨.hbm, 203, rfl⟩
abbrev main_call7_v6 : Ref sig .tc := ⟨.hbm, 204, rfl⟩
abbrev main_call7_v7 : Ref sig .tc := ⟨.hbm, 205, rfl⟩
abbrev main_call7_v8 : Ref sig .tc := ⟨.hbm, 206, rfl⟩
abbrev main_call7_v9 : Ref sig .tc := ⟨.hbm, 207, rfl⟩
abbrev main_call7_v10 : Ref sig .tc := ⟨.hbm, 208, rfl⟩
abbrev main_call7_v11 : Ref sig .tc := ⟨.hbm, 209, rfl⟩
abbrev main_call7_c_3 : Ref sig .tc := ⟨.hbm, 210, rfl⟩
abbrev main_call7_v12 : Ref sig .tc := ⟨.hbm, 211, rfl⟩
abbrev main_call7_v13 : Ref sig .tc := ⟨.hbm, 212, rfl⟩
abbrev main_call7_v14 : Ref sig .tc := ⟨.hbm, 213, rfl⟩
abbrev main_call7_cst : Ref sig .tc := ⟨.hbm, 214, rfl⟩
abbrev main_call7_v15 : Ref sig .tc := ⟨.hbm, 215, rfl⟩
abbrev main_v25 : Ref sig .tc := ⟨.hbm, 216, rfl⟩
abbrev main_v26 : Ref sig .tc := ⟨.hbm, 217, rfl⟩
abbrev main_v27 : Ref sig .tc := ⟨.hbm, 218, rfl⟩
abbrev main_v28 : Ref sig .tc := ⟨.hbm, 219, rfl⟩
abbrev main_v29 : Ref sig .tc := ⟨.hbm, 220, rfl⟩
abbrev main_v30 : Ref sig .tc := ⟨.hbm, 221, rfl⟩
abbrev main_v31 : Ref sig .tc := ⟨.hbm, 222, rfl⟩
abbrev main_v32 : Ref sig .tc := ⟨.hbm, 223, rfl⟩
abbrev main_v33 : Ref sig .tc := ⟨.hbm, 224, rfl⟩
abbrev main_v34 : Ref sig .tc := ⟨.hbm, 225, rfl⟩
abbrev main_v35 : Ref sig .tc := ⟨.hbm, 226, rfl⟩
abbrev main_v36 : Ref sig .tc := ⟨.hbm, 227, rfl⟩
abbrev main_v37 : Ref sig .tc := ⟨.hbm, 228, rfl⟩
abbrev main_v38 : Ref sig .tc := ⟨.hbm, 229, rfl⟩
abbrev main_call8_cst : Ref sig .tc := ⟨.hbm, 230, rfl⟩
abbrev main_call8_v0 : Ref sig .tc := ⟨.hbm, 231, rfl⟩
abbrev main_call8_v1 : Ref sig .tc := ⟨.hbm, 232, rfl⟩
abbrev main_call8_v2 : Ref sig .tc := ⟨.hbm, 233, rfl⟩
abbrev main_call8_v3 : Ref sig .tc := ⟨.hbm, 234, rfl⟩
abbrev main_call8_v4 : Ref sig .tc := ⟨.hbm, 235, rfl⟩
abbrev main_call8_v5 : Ref sig .tc := ⟨.hbm, 236, rfl⟩
abbrev main_call8_v6 : Ref sig .tc := ⟨.hbm, 237, rfl⟩
abbrev main_call8_v7 : Ref sig .tc := ⟨.hbm, 238, rfl⟩
abbrev main_call8_v8 : Ref sig .tc := ⟨.hbm, 239, rfl⟩
abbrev main_call8_v9 : Ref sig .tc := ⟨.hbm, 240, rfl⟩
abbrev main_call8_v10 : Ref sig .tc := ⟨.hbm, 241, rfl⟩
abbrev main_call8_v11 : Ref sig .tc := ⟨.hbm, 242, rfl⟩
abbrev main_v39 : Ref sig .tc := ⟨.hbm, 243, rfl⟩
abbrev main_v40 : Ref sig .tc := ⟨.hbm, 244, rfl⟩
abbrev main_v41 : Ref sig .tc := ⟨.hbm, 245, rfl⟩
abbrev main_v42 : Ref sig .tc := ⟨.hbm, 246, rfl⟩
abbrev main_v43 : Ref sig .tc := ⟨.hbm, 247, rfl⟩
abbrev main_v44 : Ref sig .tc := ⟨.hbm, 248, rfl⟩
abbrev main_v45 : Ref sig .tc := ⟨.hbm, 249, rfl⟩
abbrev main_v46 : Ref sig .tc := ⟨.hbm, 250, rfl⟩
abbrev main_call9_cst : Ref sig .tc := ⟨.hbm, 251, rfl⟩
abbrev main_call9_v0 : Ref sig .tc := ⟨.hbm, 252, rfl⟩
abbrev main_call9_v1 : Ref sig .tc := ⟨.hbm, 253, rfl⟩
abbrev main_call9_v2 : Ref sig .tc := ⟨.hbm, 254, rfl⟩
abbrev main_call9_v3 : Ref sig .tc := ⟨.hbm, 255, rfl⟩
abbrev main_call9_v4 : Ref sig .tc := ⟨.hbm, 256, rfl⟩
abbrev main_call9_v5 : Ref sig .tc := ⟨.hbm, 257, rfl⟩
abbrev main_call9_v6 : Ref sig .tc := ⟨.hbm, 258, rfl⟩
abbrev main_call9_v7 : Ref sig .tc := ⟨.hbm, 259, rfl⟩
abbrev main_call9_v8 : Ref sig .tc := ⟨.hbm, 260, rfl⟩
abbrev main_call9_v9 : Ref sig .tc := ⟨.hbm, 261, rfl⟩
abbrev main_call9_v10 : Ref sig .tc := ⟨.hbm, 262, rfl⟩
abbrev main_call9_v11 : Ref sig .tc := ⟨.hbm, 263, rfl⟩
abbrev main_v47 : Ref sig .tc := ⟨.hbm, 264, rfl⟩
abbrev main_v48 : Ref sig .tc := ⟨.hbm, 265, rfl⟩
abbrev main_v49 : Ref sig .tc := ⟨.hbm, 266, rfl⟩
abbrev main_v50 : Ref sig .tc := ⟨.hbm, 267, rfl⟩
abbrev main_v51 : Ref sig .tc := ⟨.hbm, 268, rfl⟩
abbrev main_v52 : Ref sig .tc := ⟨.hbm, 269, rfl⟩
abbrev main_v53 : Ref sig .tc := ⟨.hbm, 270, rfl⟩
abbrev main_v54 : Ref sig .tc := ⟨.hbm, 271, rfl⟩
abbrev main_call10_cst : Ref sig .tc := ⟨.hbm, 272, rfl⟩
abbrev main_call10_v0 : Ref sig .tc := ⟨.hbm, 273, rfl⟩
abbrev main_call10_v1 : Ref sig .tc := ⟨.hbm, 274, rfl⟩
abbrev main_call10_v2 : Ref sig .tc := ⟨.hbm, 275, rfl⟩
abbrev main_call10_v3 : Ref sig .tc := ⟨.hbm, 276, rfl⟩
abbrev main_call10_v4 : Ref sig .tc := ⟨.hbm, 277, rfl⟩
abbrev main_call10_v5 : Ref sig .tc := ⟨.hbm, 278, rfl⟩
abbrev main_call10_v6 : Ref sig .tc := ⟨.hbm, 279, rfl⟩
abbrev main_call10_v7 : Ref sig .tc := ⟨.hbm, 280, rfl⟩
abbrev main_call10_v8 : Ref sig .tc := ⟨.hbm, 281, rfl⟩
abbrev main_call10_v9 : Ref sig .tc := ⟨.hbm, 282, rfl⟩
abbrev main_call10_v10 : Ref sig .tc := ⟨.hbm, 283, rfl⟩
abbrev main_call10_v11 : Ref sig .tc := ⟨.hbm, 284, rfl⟩
abbrev main_v55 : Ref sig .tc := ⟨.hbm, 285, rfl⟩
abbrev main_v56 : Ref sig .tc := ⟨.hbm, 286, rfl⟩
abbrev main_v57 : Ref sig .tc := ⟨.hbm, 287, rfl⟩
abbrev main_v58 : Ref sig .tc := ⟨.hbm, 288, rfl⟩
abbrev main_v59 : Ref sig .tc := ⟨.hbm, 289, rfl⟩
abbrev main_v60 : Ref sig .tc := ⟨.hbm, 290, rfl⟩
abbrev main_v61 : Ref sig .tc := ⟨.hbm, 291, rfl⟩
abbrev main_v62 : Ref sig .tc := ⟨.hbm, 292, rfl⟩
abbrev main_v63 : Ref sig .tc := ⟨.hbm, 293, rfl⟩
abbrev main_v64 : Ref sig .tc := ⟨.hbm, 294, rfl⟩
abbrev main_cst : Ref sig .tc := ⟨.hbm, 295, rfl⟩
abbrev main_v65 : Ref sig .tc := ⟨.hbm, 296, rfl⟩
abbrev main_v66 : Ref sig .tc := ⟨.hbm, 297, rfl⟩
abbrev main_cst_0 : Ref sig .tc := ⟨.hbm, 298, rfl⟩
abbrev main_v67 : Ref sig .tc := ⟨.hbm, 299, rfl⟩
abbrev main_v68 : Ref sig .tc := ⟨.hbm, 300, rfl⟩
abbrev main_v69 : Ref sig .tc := ⟨.hbm, 301, rfl⟩
abbrev main_v70 : Ref sig .tc := ⟨.hbm, 302, rfl⟩
abbrev main_v71 : Ref sig .tc := ⟨.hbm, 303, rfl⟩
abbrev main_v72 : Ref sig .tc := ⟨.hbm, 304, rfl⟩
abbrev main_v73 : Ref sig .tc := ⟨.hbm, 305, rfl⟩
abbrev main_v74 : Ref sig .tc := ⟨.hbm, 306, rfl⟩

abbrev nD : Nat := 1
abbrev τ : Topo := Topo.v7x

variable {F : FTy → Type} [FloatOps F]
-- ==== Proof.Mish.lean ====
/- The activation `v · tanh (softplus v)` on the extended reals, written in the kernel's way and in the reference's,
   and the fact that the two agree at every `v ≤ 20`. Nothing here mentions a program: the values are the operations
   of the ideal instance. -/
module

public import Idealize.ShloMosaic.PureOps.Ideal
public import Idealize.ShloMosaic.PureOps.Ideal.Laws
public import Idealize.ShloMosaic.Lib.IdealHost
public import Mathlib.Analysis.SpecialFunctions.Log.Basic
public import Mathlib.Analysis.SpecialFunctions.Trigonometric.DerivHyp

@[expose] public section

noncomputable section

open Idealize.ShloMosaic

namespace Cert.Fight

/-- The f32 pattern of `2` denotes the real number `2`. -/
theorem two_pat : Ideal.ofBits .f32 0x40000000#32 = ((2 : ℝ) : EReal) := by
  simp [Ideal.ofBits, Ideal.ieee]
  rw [← EReal.coe_mul]
  norm_num

/-- The f32 pattern of `20` denotes the real number `20`. -/
theorem twenty_pat : Ideal.ofBits .f32 0x41A00000#32 = ((20 : ℝ) : EReal) := by
  simp [Ideal.ofBits, Ideal.ieee]
  rw [← EReal.coe_mul]
  norm_num

/-- The kernel's numerator factor: with `u = exp (min v 20)`, the number `u (u + 2)`. -/
def mishW (v : EReal) : EReal :=
  Ideal.exp (min v ((20 : ℝ) : EReal)) * (Ideal.exp (min v ((20 : ℝ) : EReal)) + ((2 : ℝ) : EReal))

/-- The kernel's activation: `v · w · (1 / (w + 2))` with `w = u (u + 2)` and `u = exp (min v 20)`. -/
def mishK (v : EReal) : EReal := v * mishW v * Ideal.div 1 (mishW v + ((2 : ℝ) : EReal))

/-- The reference's softplus: `max v 0 + log (1 + exp (-|v|))`, with the branch that is taken at a not-a-number
    (no extended real is one). -/
def softplus (v : EReal) : EReal :=
  Scalar.select (Ideal.cmp .une (v - 0) (v - 0)) (v + 0)
    (max v 0 + Ideal.log1p (Ideal.exp (-(FloatOps.absf (F := Ideal) (φ := .f32) (v - 0)))))

/-- The reference's activation: `v · tanh (softplus v)`. -/
def mishR (v : EReal) : EReal := v * Ideal.tanh (softplus v)

/-- No extended real differs from itself, so the reference's softplus is its ordinary branch. -/
theorem softplus_eq (v : EReal) :
    softplus v = max v 0 + Ideal.log1p (Ideal.exp (-(FloatOps.absf (F := Ideal) (φ := .f32) v))) := by
  have h : Ideal.cmp .une (v - 0) (v - 0) = 0#1 := by simp [Ideal.cmp]
  unfold softplus
  rw [h, sub_zero]
  rfl

/-- Over the reals, `max r 0 + log (1 + exp (-|r|))` is `log (1 + exp r)`. -/
theorem real_softplus (r : ℝ) : max r 0 + Real.log (1 + Real.exp (-|r|)) = Real.log (1 + Real.exp r) := by
  rcases le_total 0 r with h | h
  · rw [max_eq_left h, abs_of_nonneg h]
    have e : (1 + Real.exp r) = Real.exp r * (1 + Real.exp (-r)) := by
      rw [mul_add, ← Real.exp_add]; simp; ring
    rw [e, Real.log_mul (Real.exp_pos r).ne' (by positivity), Real.log_exp]
  · rw [max_eq_right h, abs_of_nonpos h]; simp

/-- `tanh (log (1 + u))` is `w / (w + 2)` with `w = u (u + 2)`, for a positive `u`. -/
theorem real_tanh_log (u : ℝ) (hu : 0 < u) :
    Real.tanh (Real.log (1 + u)) = (u * (u + 2)) * (u * (u + 2) + 2)⁻¹ := by
  have h1 : (0 : ℝ) < 1 + u := by linarith
  rw [Real.tanh_eq_sinh_div_cosh, Real.sinh_eq, Real.cosh_eq, Real.exp_neg, Real.exp_log h1]
  field_simp
  ring

/-- The reference's softplus of a real number is the real number `log (1 + exp r)`. -/
theorem softplus_coe (r : ℝ) : softplus (r : EReal) = ((Real.log (1 + Real.exp r) : ℝ) : EReal) := by
  rw [softplus_eq]
  have ha : FloatOps.absf (F := Ideal) (φ := .f32) ((r : ℝ) : EReal) = ((|r| : ℝ) : EReal) := by
    show max (r : EReal) (-(r : EReal)) = _
    rw [← EReal.coe_neg, abs_eq_max_neg]
    exact (EReal.coe_strictMono.monotone.map_max).symm
  have hm : max (r : EReal) 0 = ((max r 0 : ℝ) : EReal) := by
    rw [← EReal.coe_zero]; exact (EReal.coe_strictMono.monotone.map_max).symm
  rw [ha, hm, ← EReal.coe_neg, Ideal.exp_coe, Ideal.log1p, ← EReal.coe_one, ← EReal.coe_add, Ideal.log_coe,
    if_neg (not_le.mpr (by positivity)), ← EReal.coe_add, real_softplus]

/-- **The two activations agree at every `v ≤ 20`.** At a real number both are `r · tanh (log (1 + exp r))`; at `-∞`
    both are a product with zero. -/
theorem mishK_eq (v : EReal) (hv : v ≤ ((20 : ℝ) : EReal)) : mishK v = mishR v := by
  induction v using EReal.rec with
  | bot =>
    have h : Ideal.tanh (Ideal.log 1) = 0 := by
      rw [← EReal.coe_one, Ideal.log_coe, if_neg (by norm_num), Real.log_one, Ideal.tanh_coe, Real.tanh_zero,
        EReal.coe_zero]
    simp [mishK, mishW, mishR, softplus_eq, Ideal.log1p, Ideal.div, FloatOps.absf, h]
  | top => exact absurd hv (by simp)
  | coe r =>
    unfold mishK mishR mishW
    have hr : r ≤ 20 := EReal.coe_le_coe_iff.mp hv
    have hp : (0 : ℝ) < Real.exp r * (Real.exp r + 2) + 2 := by positivity
    rw [min_eq_left hv, softplus_coe, Ideal.exp_coe, Ideal.tanh_coe, real_tanh_log _ (Real.exp_pos r),
      ← EReal.coe_add, ← EReal.coe_mul, ← EReal.coe_add, ← EReal.coe_one, Ideal.div_coe hp.ne',
      ← EReal.coe_mul, ← EReal.coe_mul, ← EReal.coe_mul, one_div]
    congr 1
    ring

end Cert.Fight

end
-- ==== Proof.Spec.lean ====
/- What the network computes for ONE sample, on the extended reals: the feature row (eight looked-up table rows and
   sixteen dense columns), three dense layers with their activations, and the two heads. Both programs are compared
   with these functions; nothing here mentions a program. -/
module

public import proofs.«01_k».proof.Proof.Mish
public import Idealize.ShloMosaic.Lib.Pointwise

@[expose] public section

noncomputable section

open Idealize.ShloMosaic

namespace Cert.Fight

/-- The entry of a table of `n` numbers at the position a float names: entry `q` where the float is the whole number
    `q`, and zero where it is no position of the table. -/
def pick {n : ℕ} (tbl : Fin n → EReal) (v : EReal) : EReal :=
  ∑ q : Fin n, if v = (((q.val : ℕ) : ℝ) : EReal) then tbl q else 0

/-- At the float that is the whole number `q`, the lookup is entry `q`. -/
theorem pick_of_eq {n : ℕ} (tbl : Fin n → EReal) (q : Fin n) {v : EReal} (hv : v = (((q.val : ℕ) : ℝ) : EReal)) :
    pick tbl v = tbl q := by
  unfold pick
  rw [Finset.sum_eq_single q]
  · rw [if_pos hv]
  · intro p _ hp
    refine if_neg fun h => hp ?_
    rw [hv] at h
    exact (Fin.ext (by exact_mod_cast h)).symm
  · intro h
    exact absurd (Finset.mem_univ q) h

/-- The feature row of a sample: columns 0–199 the two fighters' table rows, columns 200–799 the six abilities' table
    rows, columns 800–815 the sample's sixteen dense columns. -/
def feat (ft : Fin 38 → Fin 100 → EReal) (ab : Fin 241 → Fin 100 → EReal) (x : Fin 24 → EReal) (k : Fin 816) : EReal :=
  if k.val < 200 then pick (fun q => ft q ⟨k.val % 100, Nat.mod_lt _ (by norm_num)⟩) (x ⟨k.val / 100, by omega⟩)
  else if h : k.val < 800 then
    pick (fun q => ab q ⟨k.val % 100, Nat.mod_lt _ (by norm_num)⟩) (x ⟨k.val / 100, by omega⟩)
  else x ⟨k.val - 792, by omega⟩

/-- Columns `100 s` to `100 s + 99` of the feature row, of a fighter. -/
theorem feat_fighter {ft : Fin 38 → Fin 100 → EReal} {ab : Fin 241 → Fin 100 → EReal} {x : Fin 24 → EReal} {k : Fin 816}
    (s : Fin 24) (q : Fin 100) (hs : s.val < 2) (hk : k.val = 100 * s.val + q.val) :
    feat ft ab x k = pick (fun p => ft p q) (x s) := by
  have h1 : (⟨k.val % 100, Nat.mod_lt _ (by norm_num)⟩ : Fin 100) = q := Fin.ext (by dsimp only; omega)
  have h2 : (⟨k.val / 100, by omega⟩ : Fin 24) = s := Fin.ext (by dsimp only; omega)
  unfold feat
  rw [if_pos (by omega), h1, h2]

/-- The same of an ability. -/
theorem feat_ability {ft : Fin 38 → Fin 100 → EReal} {ab : Fin 241 → Fin 100 → EReal} {x : Fin 24 → EReal} {k : Fin 816}
    (s : Fin 24) (q : Fin 100) (hs : 2 ≤ s.val ∧ s.val < 8) (hk : k.val = 100 * s.val + q.val) :
    feat ft ab x k = pick (fun p => ab p q) (x s) := by
  have h1 : (⟨k.val % 100, Nat.mod_lt _ (by norm_num)⟩ : Fin 100) = q := Fin.ext (by dsimp only; omega)
  have h2 : (⟨k.val / 100, by omega⟩ : Fin 24) = s := Fin.ext (by dsimp only; omega)
  unfold feat
  rw [if_neg (by omega), dif_pos (by omega), h1, h2]

/-- The dense columns of the feature row. -/
theorem feat_dense {ft : Fin 38 → Fin 100 → EReal} {ab : Fin 241 → Fin 100 → EReal} {x : Fin 24 → EReal} {k : Fin 816}
    (q : Fin 16) (hk : k.val = 800 + q.val) : feat ft ab x k = x ⟨8 + q.val, by omega⟩ := by
  unfold feat
  rw [if_neg (by omega), dif_neg (by omega)]
  exact congrArg x (Fin.ext (by dsimp only; omega))

/-- One dense layer: the products of the input with row `j` of the weights, summed, plus the bias. -/
def dense {n m : ℕ} (z : Fin n → EReal) (W : Fin m → Fin n → EReal) (b : Fin m → EReal) (j : Fin m) : EReal :=
  (∑ k : Fin n, z k * W j k) + b j

/-- The network's weights and biases. -/
structure Net where
  /-- first layer -/
  W1 : Fin 512 → Fin 816 → EReal
  b1 : Fin 512 → EReal
  /-- second layer -/
  W2 : Fin 256 → Fin 512 → EReal
  b2 : Fin 256 → EReal
  /-- hidden layer of the win head -/
  Ww : Fin 128 → Fin 256 → EReal
  bw : Fin 128 → EReal
  /-- hidden layer of the advantage head -/
  Wa : Fin 128 → Fin 256 → EReal
  ba : Fin 128 → EReal
  /-- output row of the win head -/
  Vw : Fin 1 → Fin 128 → EReal
  cw : Fin 1 → EReal
  /-- output row of the advantage head -/
  Va : Fin 1 → Fin 128 → EReal
  ca : Fin 1 → EReal

variable (P : Net) (act : EReal → EReal) (f : Fin 816 → EReal)

/-- The first hidden row: `tanh` of the first layer at the feature row. -/
def hid1 (j : Fin 512) : EReal := Ideal.tanh (dense f P.W1 P.b1 j)

/-- The argument of the second layer's activation. -/
def arg2 (j : Fin 256) : EReal := dense (hid1 P f) P.W2 P.b2 j

/-- The argument of the win head's activation. -/
def argW (j : Fin 128) : EReal := dense (fun k => act (arg2 P f k)) P.Ww P.bw j

/-- The argument of the advantage head's activation. -/
def argA (j : Fin 128) : EReal := dense (fun k => act (arg2 P f k)) P.Wa P.ba j

/-- The win probability of a sample. -/
def win : EReal := Ideal.logistic (dense (fun k => act (argW P act f k)) P.Vw P.cw 0)

/-- The advantage of a sample. -/
def adv : EReal := Ideal.tanh (dense (fun k => act (argA P act f k)) P.Va P.ca 0)

/-- Where the second layer's activation arguments are at most 20, both activations give the win head the same arguments. -/
theorem argW_eq (h2 : ∀ k, arg2 P f k ≤ ((20 : ℝ) : EReal)) : argW P mishK f = argW P mishR f :=
  congrArg (fun z => dense z P.Ww P.bw) (funext fun k => mishK_eq _ (h2 k))

/-- The same for the advantage head. -/
theorem argA_eq (h2 : ∀ k, arg2 P f k ≤ ((20 : ℝ) : EReal)) : argA P mishK f = argA P mishR f :=
  congrArg (fun z => dense z P.Wa P.ba) (funext fun k => mishK_eq _ (h2 k))

/-- Where all activation arguments are at most 20, the win probability is the same with either activation. -/
theorem win_eq (h2 : ∀ k, arg2 P f k ≤ ((20 : ℝ) : EReal)) (hw : ∀ k, argW P mishR f k ≤ ((20 : ℝ) : EReal)) :
    win P mishK f = win P mishR f := by
  unfold win
  rw [argW_eq P f h2]
  exact congrArg (fun z => Ideal.logistic (dense z P.Vw P.cw 0)) (funext fun k => mishK_eq _ (hw k))

/-- Where all activation arguments are at most 20, the advantage is the same with either activation. -/
theorem adv_eq (h2 : ∀ k, arg2 P f k ≤ ((20 : ℝ) : EReal)) (ha : ∀ k, argA P mishR f k ≤ ((20 : ℝ) : EReal)) :
    adv P mishK f = adv P mishR f := by
  unfold adv
  rw [argA_eq P f h2]
  exact congrArg (fun z => Ideal.tanh (dense z P.Va P.ca 0)) (funext fun k => mishK_eq _ (ha k))

/-! ## The padded layout of the feature axis

The kernel keeps the 816 feature rows in 912: each of the eight looked-up groups of 100 rows starts at a multiple of 112,
the sixteen dense rows at 896. -/

/-- Where feature `k` lies in the padded layout. -/
def padRow (k : Fin 816) : Fin 912 :=
  if h : k.val < 800 then ⟨112 * (k.val / 100) + k.val % 100, by omega⟩ else ⟨k.val + 96, by omega⟩

theorem padRow_lt {k : Fin 816} (h : k.val < 800) : (padRow k).val = 112 * (k.val / 100) + k.val % 100 := by
  unfold padRow; rw [dif_pos h]

theorem padRow_ge {k : Fin 816} (h : ¬ k.val < 800) : (padRow k).val = k.val + 96 := by
  unfold padRow; rw [dif_neg h]

/-- A padded row that is a feature's: below 896 its place within its group of 112 is below 100. -/
theorem exists_padRow {r : Fin 912} (h : 896 ≤ r.val ∨ r.val % 112 < 100) : ∃ k, padRow k = r := by
  by_cases h8 : 896 ≤ r.val
  · refine ⟨⟨r.val - 96, by omega⟩, Fin.ext ?_⟩
    rw [padRow_ge (by dsimp only; omega)]
    dsimp only
    omega
  · have hm : r.val % 112 < 100 := by omega
    refine ⟨⟨100 * (r.val / 112) + r.val % 112, by omega⟩, Fin.ext ?_⟩
    rw [padRow_lt (by dsimp only; omega)]
    dsimp only
    omega

/-- Different features lie in different padded rows. -/
theorem padRow_injective : Function.Injective padRow := by
  intro a b h
  have hv : (padRow a).val = (padRow b).val := congrArg Fin.val h
  refine Fin.ext ?_
  by_cases ha : a.val < 800 <;> by_cases hb : b.val < 800
  · rw [padRow_lt ha, padRow_lt hb] at hv; omega
  · rw [padRow_lt ha, padRow_ge hb] at hv; omega
  · rw [padRow_ge ha, padRow_lt hb] at hv; omega
  · rw [padRow_ge ha, padRow_ge hb] at hv; omega

/-- A sum over the padded rows whose terms vanish at every row that is no feature's is the sum over the features. -/
theorem sum_padRow (g : Fin 912 → EReal) (h0 : ∀ r : Fin 912, r.val < 896 → 100 ≤ r.val % 112 → g r = 0) :
    ∑ r : Fin 912, g r = ∑ k : Fin 816, g (padRow k) := by
  refine (Finset.sum_of_injOn padRow (padRow_injective.injOn) (fun _ _ => Finset.mem_coe.mpr (Finset.mem_univ _))
    (fun r _ hr => ?_) (fun _ _ => rfl)).symm
  by_cases h : 896 ≤ r.val ∨ r.val % 112 < 100
  · obtain ⟨k, hk⟩ := exists_padRow h
    exact absurd ⟨k, Finset.mem_coe.mpr (Finset.mem_univ k), hk⟩ hr
  · exact h0 r (by omega) (by omega)

/-! ## The two results as functions of the argument arrays -/

/-- The fifteen argument arrays. -/
structure Args where
  x : (⟨2, ![16384, 24]⟩ : Shape).Idx → EReal
  ft : (⟨2, ![38, 100]⟩ : Shape).Idx → EReal
  ab : (⟨2, ![241, 100]⟩ : Shape).Idx → EReal
  W1 : (⟨2, ![512, 816]⟩ : Shape).Idx → EReal
  b1 : (⟨1, ![512]⟩ : Shape).Idx → EReal
  W2 : (⟨2, ![256, 512]⟩ : Shape).Idx → EReal
  b2 : (⟨1, ![256]⟩ : Shape).Idx → EReal
  Ww : (⟨2, ![128, 256]⟩ : Shape).Idx → EReal
  bw : (⟨1, ![128]⟩ : Shape).Idx → EReal
  Wa : (⟨2, ![128, 256]⟩ : Shape).Idx → EReal
  ba : (⟨1, ![128]⟩ : Shape).Idx → EReal
  Vw : (⟨2, ![1, 128]⟩ : Shape).Idx → EReal
  cw : (⟨1, ![1]⟩ : Shape).Idx → EReal
  Va : (⟨2, ![1, 128]⟩ : Shape).Idx → EReal
  ca : (⟨1, ![1]⟩ : Shape).Idx → EReal

/-- The network's parameters, entry by entry. -/
def Args.net (A : Args) : Net where
  W1 j k := A.W1 (ix2 j k)
  b1 j := A.b1 (ix1 j)
  W2 j k := A.W2 (ix2 j k)
  b2 j := A.b2 (ix1 j)
  Ww j k := A.Ww (ix2 j k)
  bw j := A.bw (ix1 j)
  Wa j k := A.Wa (ix2 j k)
  ba j := A.ba (ix1 j)
  Vw j k := A.Vw (ix2 j k)
  cw j := A.cw (ix1 j)
  Va j k := A.Va (ix2 j k)
  ca j := A.ca (ix1 j)

/-- The feature row of sample `i`. -/
def Args.row (A : Args) (i : Fin 16384) : Fin 816 → EReal :=
  feat (fun p q => A.ft (ix2 p q)) (fun p q => A.ab (ix2 p q)) (fun s => A.x (ix2 i s))

/-- The win probability of sample `i`. -/
def Args.win (A : Args) (act : EReal → EReal) (i : Fin 16384) : EReal := Fight.win A.net act (A.row i)

/-- The advantage of sample `i`. -/
def Args.adv (A : Args) (act : EReal → EReal) (i : Fin 16384) : EReal := Fight.adv A.net act (A.row i)

end Cert.Fight

end
-- ==== Proof.KernelNet.lean ====
/- The arithmetic of one block of the kernel, read at one sample of the block: from the padded feature block and the
   weights the kernel carries, both results are the network of `Spec.lean` with the kernel's activation. -/
module

public import proofs.«01_k».proof.Proof.Spec
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Fight

/-- The network's parameters, read off the arrays the kernel carries and the blocks it is given. The first layer is read
    through the padded layout of the feature axis. -/
def netOf (w1 : FVec Ideal S912x512 .bf16) (b1 : FVec Ideal S512 .f32) (w2 : FVec Ideal S256x512 .bf16)
    (b2 : FVec Ideal S256 .f32) (ww : FVec Ideal S128x256 .bf16) (bw : FVec Ideal S128 .f32)
    (wa : FVec Ideal S128x256 .bf16) (ba : FVec Ideal S128 .f32) (vw : FVec Ideal S1x128 .f32) (cw : FVec Ideal S1 .f32)
    (va : FVec Ideal S1x128 .f32) (ca : FVec Ideal S1 .f32) : Net where
  W1 j k := w1 (ix2 (padRow k) j)
  b1 j := b1 (ix1 j)
  W2 j k := w2 (ix2 j k)
  b2 j := b2 (ix1 j)
  Ww j k := ww (ix2 j k)
  bw j := bw (ix1 j)
  Wa j k := wa (ix2 j k)
  ba j := ba (ix1 j)
  Vw j k := vw (ix2 j k)
  cw j := cw (ix1 j)
  Va j k := va (ix2 j k)
  ca j := ca (ix1 j)

variable (E : FVec Ideal S912x4096 .bf16) (w1 : FVec Ideal S912x512 .bf16) (b1 : FVec Ideal S512 .f32)
  (w2 : FVec Ideal S256x512 .bf16) (b2 : FVec Ideal S256 .f32) (ww : FVec Ideal S128x256 .bf16) (bw : FVec Ideal S128 .f32)
  (wa : FVec Ideal S128x256 .bf16) (ba : FVec Ideal S128 .f32) (vw : FVec Ideal S1x128 .f32) (cw : FVec Ideal S1 .f32)
  (va : FVec Ideal S1x128 .f32) (ca : FVec Ideal S1 .f32)

/-- The second activation's argument at a sample, the first layer summed over the padded rows. -/
theorem pay31_apply (y : Fin 4096) (j : Fin 256) :
    k0_pay31 (F := Ideal) E w1 (constant S4096x512 .f32 0x00000000#32) b1 w2 b2 (ix2 y j)
      = mishK (dense (fun q => Ideal.tanh ((∑ r, E (ix2 r y) * w1 (ix2 r q)) + b1 (ix1 q)))
          (fun j q => w2 (ix2 j q)) (fun j => b2 (ix1 j)) j) := by
  pointwise [k0_pay31]
  rw [two_pat, twenty_pat]
  rfl

/-- The same as the network's, where the weights vanish at every padded row that is no feature's. -/
theorem pay31_eq (hz : ∀ (r : Fin 912) (q : Fin 512), r.val < 896 → 100 ≤ r.val % 112 → w1 (ix2 r q) = 0) (y : Fin 4096)
    (j : Fin 256) :
    k0_pay31 (F := Ideal) E w1 (constant S4096x512 .f32 0x00000000#32) b1 w2 b2 (ix2 y j)
      = mishK (arg2 (netOf w1 b1 w2 b2 ww bw wa ba vw cw va ca) (fun k => E (ix2 (padRow k) y)) j) := by
  rw [pay31_apply]
  refine congrArg (fun z => mishK (dense z (fun j q => w2 (ix2 j q)) (fun j => b2 (ix1 j)) j)) (funext fun q => ?_)
  rw [sum_padRow (fun r => E (ix2 r y) * w1 (ix2 r q)) (fun r h1 h2 => by rw [hz r q h1 h2, mul_zero])]
  rfl

/-- The win head's hidden argument at a sample. -/
theorem pay32_apply (y : Fin 4096) (j : Fin 128) :
    k0_pay32 (F := Ideal) E w1 (constant S4096x512 .f32 0x00000000#32) b1 w2 b2 ww bw (ix2 y j)
      = dense (fun q => k0_pay31 (F := Ideal) E w1 (constant S4096x512 .f32 0x00000000#32) b1 w2 b2 (ix2 y q))
          (fun j q => ww (ix2 j q)) (fun j => bw (ix1 j)) j := by
  pointwise [k0_pay32, dense]

/-- The win head's activation at a sample: the kernel forms its two factors apart. -/
theorem pay34_35_apply (y : Fin 4096) (j : Fin 128) :
    k0_pay34 (F := Ideal) E w1 (constant S4096x512 .f32 0x00000000#32) b1 w2 b2 ww bw (ix2 y j)
      * k0_pay35 (F := Ideal) E w1 (constant S4096x512 .f32 0x00000000#32) b1 w2 b2 ww bw (ix2 y j)
      = mishK (k0_pay32 (F := Ideal) E w1 (constant S4096x512 .f32 0x00000000#32) b1 w2 b2 ww bw (ix2 y j)) := by
  pointwise [k0_pay34, k0_pay35, k0_pay33]
  rw [two_pat, twenty_pat]
  rfl

/-- The win head's output row at a sample, over any two factors. -/
theorem pay36_apply (u v : FVec Ideal S4096x128 .f32) (y : Fin 4096) :
    k0_pay36 (F := Ideal) u v vw cw (ix2 0 y)
      = Ideal.logistic ((∑ k, vw (ix2 0 k) * (u (ix2 y k) * v (ix2 y k))) + cw (ix1 0)) := by
  pointwise [k0_pay36]

/-- **The win probability of a sample of the block.** -/
theorem win_block (hz : ∀ (r : Fin 912) (q : Fin 512), r.val < 896 → 100 ≤ r.val % 112 → w1 (ix2 r q) = 0) (y : Fin 4096) :
    k0_pay36 (F := Ideal) (k0_pay34 E w1 (constant S4096x512 .f32 0x00000000#32) b1 w2 b2 ww bw)
        (k0_pay35 E w1 (constant S4096x512 .f32 0x00000000#32) b1 w2 b2 ww bw) vw cw (ix2 0 y)
      = win (netOf w1 b1 w2 b2 ww bw wa ba vw cw va ca) mishK (fun k => E (ix2 (padRow k) y)) := by
  rw [pay36_apply]
  unfold win
  refine congrArg (fun z => Ideal.logistic (z + cw (ix1 0))) (Finset.sum_congr rfl fun k _ => ?_)
  rw [pay34_35_apply, pay32_apply, mul_comm]
  refine congrArg (fun z => mishK (dense z (fun j q => ww (ix2 j q)) (fun j => bw (ix1 j)) k) * vw (ix2 0 k))
    (funext fun q => ?_)
  exact pay31_eq E w1 b1 w2 b2 ww bw wa ba vw cw va ca hz y q

/-- The advantage head at a sample, over any hidden rows. -/
theorem pay37_apply (h : FVec Ideal S4096x256 .bf16) (y : Fin 4096) :
    k0_pay37 (F := Ideal) h wa ba va ca (ix2 0 y)
      = Ideal.tanh ((∑ k, va (ix2 0 k) * mishK (dense (fun q => h (ix2 y q)) (fun j q => wa (ix2 j q))
          (fun j => ba (ix1 j)) k)) + ca (ix1 0)) := by
  pointwise [k0_pay37]
  rw [two_pat, twenty_pat]
  rfl

/-- **The advantage of a sample of the block.** -/
theorem adv_block (hz : ∀ (r : Fin 912) (q : Fin 512), r.val < 896 → 100 ≤ r.val % 112 → w1 (ix2 r q) = 0) (y : Fin 4096) :
    k0_pay37 (F := Ideal) (k0_pay31 E w1 (constant S4096x512 .f32 0x00000000#32) b1 w2 b2) wa ba va ca (ix2 0 y)
      = adv (netOf w1 b1 w2 b2 ww bw wa ba vw cw va ca) mishK (fun k => E (ix2 (padRow k) y)) := by
  rw [pay37_apply]
  unfold adv
  refine congrArg (fun z => Ideal.tanh (z + ca (ix1 0))) (Finset.sum_congr rfl fun k _ => ?_)
  rw [mul_comm]
  refine congrArg (fun z => mishK (dense z (fun j q => wa (ix2 j q)) (fun j => ba (ix1 j)) k) * va (ix2 0 k))
    (funext fun q => ?_)
  exact pay31_eq E w1 b1 w2 b2 ww bw wa ba vw cw va ca hz y q

end Cert.Fight

end
-- ==== Proof.KernelFeat.lean ====
/- The feature block of one grid point of the kernel: the rows it stores into the padded feature scratch, read at one
   sample of the block, are the sample's feature row; and the rows it stores into the padded weight scratch at the
   first grid point are the first layer's weights, with zeros between the groups. -/
module

public import proofs.«01_k».proof.Proof.Spec
public import proofs.«01_k».proof.Proof.Gen.KernelIdeal.Skeleton
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Cert.KernelIdeal Cert.KernelIdeal.Gen

namespace Cert.Fight

/-! ## One-hot products -/

/-- A one-hot entry, as the kernel makes it (compare, widen, convert), is one where the floats are equal, else zero. -/
theorem hot_entry (v w : EReal) :
    FloatOps.sitofp (F := Ideal) FTy.f32 (BitVec.setWidth 32 (BitVec.ofBool (decide (v = w)))) = if v = w then 1 else 0 := by
  show (((BitVec.setWidth 32 (BitVec.ofBool (decide (v = w)))).toInt : ℝ) : EReal) = _
  by_cases h : v = w
  · have h1 : (BitVec.setWidth 32 (BitVec.ofBool true)).toInt = 1 := by decide
    rw [if_pos h, decide_eq_true h, h1]
    norm_num
  · have h0 : (BitVec.setWidth 32 (BitVec.ofBool false)).toInt = 0 := by decide
    rw [if_neg h, decide_eq_false h, h0]
    norm_num

/-- A small whole number, as the kernel's index column holds it. -/
theorem iota_entry {q : ℕ} (hq : q < 2 ^ 31) :
    FloatOps.sitofp (F := Ideal) FTy.f32 (BitVec.ofNat 32 q) = ((q : ℝ) : EReal) := by
  show (((BitVec.ofNat 32 q).toInt : ℝ) : EReal) = _
  have h : (BitVec.ofNat 32 q).toInt = (q : ℤ) := by
    rw [BitVec.toInt_ofNat', Int.bmod_def]
    norm_num at hq ⊢
    omega
  rw [h]
  norm_num

/-- A row of a table times a one-hot column is the table's entry at the column's float. -/
theorem sum_hot {n : ℕ} (hn : n < 2 ^ 31) (tbl : Fin n → EReal) (v : EReal) :
    (∑ q : Fin n, tbl q * FloatOps.sitofp (F := Ideal) FTy.f32 (BitVec.setWidth 32 (BitVec.ofBool
        (decide (v = FloatOps.sitofp (F := Ideal) FTy.f32 (BitVec.ofNat 32 q.val)))))) = pick tbl v := by
  unfold pick
  refine Finset.sum_congr rfl fun q _ => ?_
  rw [hot_entry, iota_entry (q.isLt.trans hn)]
  split
  · rw [mul_one]
  · rw [mul_zero]

variable (x : FVec Ideal S24x4096 .f32) (ft : FVec Ideal S100x38 .bf16) (ab : FVec Ideal S100x241 .bf16)

/-- The dense rows of the block: rows 8 to 23 of the input. -/
theorem pay19_apply (q : Fin 16) (y : Fin 4096) :
    k0_pay19 (F := Ideal) x (ix2 q y) = x (ix2 ⟨8 + q.val, by omega⟩ y) := by
  pointwise [k0_pay19, k0_pay18]

/-- The fighter product at column `4096 s + y`: the table's entry at the float in row `s` of sample `y`. -/
theorem pay20_apply (q : Fin 100) (y : Fin 4096) (s : Fin 2) (z : Fin 8192) (hz : z.val = 4096 * s.val + y.val) :
    k0_pay20 (F := Ideal) x ft (ix2 q z) = pick (fun p => ft (ix2 q p)) (x (ix2 ⟨s.val, by omega⟩ y)) := by
  have h1 : (⟨s.val, by omega⟩ : Fin 24) = ⟨z.val / 4096, by omega⟩ := Fin.ext (by dsimp only; omega)
  have h2 : y = (⟨z.val % 4096, by omega⟩ : Fin 4096) := Fin.ext (by dsimp only; omega)
  rw [← sum_hot (by norm_num), congrArg₂ (fun a b => x (ix2 a b)) h1 h2]
  pointwise [k0_pay20, k0_pay18]

/-- The ability product at column `4096 s + y`: the table's entry at the float in row `2 + s` of sample `y`. -/
theorem pay21_apply (q : Fin 100) (y : Fin 4096) (s : Fin 6) (z : Fin 24576) (hz : z.val = 4096 * s.val + y.val) :
    k0_pay21 (F := Ideal) x ab (ix2 q z) = pick (fun p => ab (ix2 q p)) (x (ix2 ⟨2 + s.val, by omega⟩ y)) := by
  have h1 : (⟨2 + s.val, by omega⟩ : Fin 24) = ⟨2 + z.val / 4096, by omega⟩ := Fin.ext (by dsimp only; omega)
  have h2 : y = (⟨z.val % 4096, by omega⟩ : Fin 4096) := Fin.ext (by dsimp only; omega)
  rw [← sum_hot (by norm_num), congrArg₂ (fun a b => x (ix2 a b)) h1 h2]
  pointwise [k0_pay21, k0_pay18]

theorem pay22_apply (q : Fin 100) (y : Fin 4096) :
    k0_pay22 (F := Ideal) x ft (ix2 q y) = pick (fun p => ft (ix2 q p)) (x (ix2 0 y)) := by
  refine Eq.trans ?_ (pay20_apply x ft q y 0 ⟨y.val, by omega⟩ (by simp))
  pointwise [k0_pay22]

theorem pay24_apply (q : Fin 100) (y : Fin 4096) :
    k0_pay24 (F := Ideal) (k0_pay23 x ft) (ix2 q y) = pick (fun p => ft (ix2 q p)) (x (ix2 1 y)) := by
  refine Eq.trans ?_ (pay20_apply x ft q y 1 ⟨4096 + y.val, by omega⟩ (by simp))
  pointwise [k0_pay24, k0_pay23]

theorem pay25_apply (q : Fin 100) (y : Fin 4096) :
    k0_pay25 (F := Ideal) (k0_pay21 x ab) (ix2 q y) = pick (fun p => ab (ix2 q p)) (x (ix2 2 y)) := by
  refine Eq.trans ?_ (pay21_apply x ab q y 0 ⟨y.val, by omega⟩ (by simp))
  pointwise [k0_pay25]

theorem pay26_apply (q : Fin 100) (y : Fin 4096) :
    k0_pay26 (F := Ideal) (k0_pay21 x ab) (ix2 q y) = pick (fun p => ab (ix2 q p)) (x (ix2 3 y)) := by
  refine Eq.trans ?_ (pay21_apply x ab q y 1 ⟨4096 + y.val, by omega⟩ (by simp))
  pointwise [k0_pay26]

theorem pay27_apply (q : Fin 100) (y : Fin 4096) :
    k0_pay27 (F := Ideal) (k0_pay21 x ab) (ix2 q y) = pick (fun p => ab (ix2 q p)) (x (ix2 4 y)) := by
  refine Eq.trans ?_ (pay21_apply x ab q y 2 ⟨8192 + y.val, by omega⟩ (by simp))
  pointwise [k0_pay27]

theorem pay28_apply (q : Fin 100) (y : Fin 4096) :
    k0_pay28 (F := Ideal) (k0_pay21 x ab) (ix2 q y) = pick (fun p => ab (ix2 q p)) (x (ix2 5 y)) := by
  refine Eq.trans ?_ (pay21_apply x ab q y 3 ⟨12288 + y.val, by omega⟩ (by simp))
  pointwise [k0_pay28]

theorem pay29_apply (q : Fin 100) (y : Fin 4096) :
    k0_pay29 (F := Ideal) (k0_pay21 x ab) (ix2 q y) = pick (fun p => ab (ix2 q p)) (x (ix2 6 y)) := by
  refine Eq.trans ?_ (pay21_apply x ab q y 4 ⟨16384 + y.val, by omega⟩ (by simp))
  pointwise [k0_pay29]

theorem pay30_apply (q : Fin 100) (y : Fin 4096) :
    k0_pay30 (F := Ideal) (k0_pay21 x ab) (ix2 q y) = pick (fun p => ab (ix2 q p)) (x (ix2 7 y)) := by
  refine Eq.trans ?_ (pay21_apply x ab q y 5 ⟨20480 + y.val, by omega⟩ (by simp))
  pointwise [k0_pay30]

/-! ## Rows stored one group after another -/

/-- A list of stored row groups read at one row: it is enough that the newest group agrees with the wanted value where it
    holds the row, and the rest of the list where it does not. -/
theorem read_group {sig : RefSig} {κ : Kind} {sp : Space} {e : EltTy} {R W N : ℕ}
    (v : View sig κ sp (⟨2, ![N, W]⟩ : Shape) e) (f : v.ty.Contents (Elt Ideal)) {o : ℕ}
    (inb : ∀ a : Fin 2, (![o, 0] : Fin 2 → ℕ) a + (![R, W] : Fin 2 → ℕ) a ≤ (![N, W] : Fin 2 → ℕ) a)
    (w : (⟨2, ![R, W]⟩ : Shape).Idx → Elt Ideal e) (L : List (View.Piece (Elt Ideal) (⟨2, ![N, W]⟩ : Shape) e))
    (r : Fin N) (y : Fin W) (T : Elt Ideal e) (hin : ∀ q : Fin R, r.val = o + q.val → w (ix2 q y) = T)
    (hout : (r.val < o ∨ o + R ≤ r.val) → v.read (Elt Ideal) (v.writes (Elt Ideal) f L) (ix2 r y) = T) :
    v.read (Elt Ideal) (v.writes (Elt Ideal) f
      ((⟨Rect.unit (s := ⟨2, ![N, W]⟩) ![o, 0] ![R, W] inb, w⟩ : View.Piece (Elt Ideal) (⟨2, ![N, W]⟩ : Shape) e) :: L)) (ix2 r y)
      = T := by
  by_cases h : o ≤ r.val ∧ r.val < o + R
  · rw [View.read_writes_cons_rows_of_mem v f inb w L (ix2 r y) (ix2 (⟨r.val - o, by omega⟩ : Fin R) y) rfl
      (by show r.val = o + (r.val - o); omega) rfl]
    exact hin _ (by show r.val = o + (r.val - o); omega)
  · rw [View.read_writes_cons_rows_of_not_mem (W := R) v f inb w L (ix2 r y) rfl rfl
      (by show r.val < o ∨ o + R ≤ r.val; omega)]
    exact hout (by omega)

/-- The nine groups of rows a grid point stores into the feature scratch, the newest first. -/
abbrev exbPieces : List (View.Piece (Elt Ideal) S912x4096 .bf16) :=
  [ ⟨Rect.unit ![784, 0] ![100, 4096] inb_S912x4096_S100x4096_784_0, k0_pay30 (F := Ideal) (k0_pay21 x ab)⟩,
    ⟨Rect.unit ![672, 0] ![100, 4096] inb_S912x4096_S100x4096_672_0, k0_pay29 (F := Ideal) (k0_pay21 x ab)⟩,
    ⟨Rect.unit ![560, 0] ![100, 4096] inb_S912x4096_S100x4096_560_0, k0_pay28 (F := Ideal) (k0_pay21 x ab)⟩,
    ⟨Rect.unit ![448, 0] ![100, 4096] inb_S912x4096_S100x4096_448_0, k0_pay27 (F := Ideal) (k0_pay21 x ab)⟩,
    ⟨Rect.unit ![336, 0] ![100, 4096] inb_S912x4096_S100x4096_336_0, k0_pay26 (F := Ideal) (k0_pay21 x ab)⟩,
    ⟨Rect.unit ![224, 0] ![100, 4096] inb_S912x4096_S100x4096_224_0, k0_pay25 (F := Ideal) (k0_pay21 x ab)⟩,
    ⟨Rect.unit ![112, 0] ![100, 4096] inb_S912x4096_S100x4096_112_0, k0_pay24 (F := Ideal) (k0_pay23 x ft)⟩,
    ⟨Rect.unit ![0, 0] ![100, 4096] inb_S912x4096_S100x4096_0_0, k0_pay22 (F := Ideal) x ft⟩,
    ⟨Rect.unit ![896, 0] ![16, 4096] inb_S912x4096_S16x4096_896_0, k0_pay19 (F := Ideal) x⟩ ]

/-- **The feature scratch after a grid point's stores, read at one sample, is the sample's feature row**: whatever the
    scratch held before, at every row that is a feature's. -/
theorem exb_read {sig : RefSig} {κ : Kind} {sp : Space} (v : View sig κ sp S912x4096 .bf16) (f : v.ty.Contents (Elt Ideal))
    (L : List (View.Piece (Elt Ideal) S912x4096 .bf16)) (k : Fin 816) (y : Fin 4096) :
    v.read (Elt Ideal) (v.writes (Elt Ideal) f (exbPieces x ft ab ++ L))
      (ix2 (padRow k) y)
      = feat (fun q r => ft (ix2 r q)) (fun q r => ab (ix2 r q)) (fun s => x (ix2 s y)) k := by
  have hlt := fun h => padRow_lt (k := k) h
  have hge := fun h => padRow_ge (k := k) h
  refine read_group v f _ _ _ _ _ _ (fun q hq => ?_) fun h7 => ?_
  · rw [pay30_apply, feat_ability 7 q (by omega) (by omega)]
  refine read_group v f _ _ _ _ _ _ (fun q hq => ?_) fun h6 => ?_
  · rw [pay29_apply, feat_ability 6 q (by omega) (by omega)]
  refine read_group v f _ _ _ _ _ _ (fun q hq => ?_) fun h5 => ?_
  · rw [pay28_apply, feat_ability 5 q (by omega) (by omega)]
  refine read_group v f _ _ _ _ _ _ (fun q hq => ?_) fun h4 => ?_
  · rw [pay27_apply, feat_ability 4 q (by omega) (by omega)]
  refine read_group v f _ _ _ _ _ _ (fun q hq => ?_) fun h3 => ?_
  · rw [pay26_apply, feat_ability 3 q (by omega) (by omega)]
  refine read_group v f _ _ _ _ _ _ (fun q hq => ?_) fun h2 => ?_
  · rw [pay25_apply, feat_ability 2 q (by omega) (by omega)]
  refine read_group v f _ _ _ _ _ _ (fun q hq => ?_) fun h1 => ?_
  · rw [pay24_apply, feat_fighter 1 q (by omega) (by omega)]
  refine read_group v f _ _ _ _ _ _ (fun q hq => ?_) fun h0 => ?_
  · rw [pay22_apply, feat_fighter 0 q (by omega) (by omega)]
  refine read_group v f _ _ _ _ _ _ (fun q hq => ?_) fun hd => ?_
  · rw [pay19_apply, feat_dense q (by omega)]
  · omega

/-- The stores of the first grid point into the weight scratch, the newest first: nine groups of rows over zeros. -/
abbrev w1Pieces (w : FVec Ideal S816x512 .f32) : List (View.Piece (Elt Ideal) S912x512 .bf16) :=
  [ ⟨Rect.unit ![896, 0] ![16, 512] inb_S912x512_S16x512_896_0,
            k0_pay13 (F := Ideal) (View.ld (Val := Elt Ideal) (e' := .f32) w (Rect.unit (s := S816x512) ![800, 0] ![16, 512] inb_S816x512_S16x512_800_0))⟩,
    ⟨Rect.unit ![784, 0] ![100, 512] inb_S912x512_S100x512_784_0,
            k0_pay12 (F := Ideal) (View.ld (Val := Elt Ideal) (e' := .f32) w (Rect.unit (s := S816x512) ![700, 0] ![100, 512] inb_S816x512_S100x512_700_0))⟩,
    ⟨Rect.unit ![672, 0] ![100, 512] inb_S912x512_S100x512_672_0,
            k0_pay11 (F := Ideal) (View.ld (Val := Elt Ideal) (e' := .f32) w (Rect.unit (s := S816x512) ![600, 0] ![100, 512] inb_S816x512_S100x512_600_0))⟩,
    ⟨Rect.unit ![560, 0] ![100, 512] inb_S912x512_S100x512_560_0,
            k0_pay10 (F := Ideal) (View.ld (Val := Elt Ideal) (e' := .f32) w (Rect.unit (s := S816x512) ![500, 0] ![100, 512] inb_S816x512_S100x512_500_0))⟩,
    ⟨Rect.unit ![448, 0] ![100, 512] inb_S912x512_S100x512_448_0,
            k0_pay9 (F := Ideal) (View.ld (Val := Elt Ideal) (e' := .f32) w (Rect.unit (s := S816x512) ![400, 0] ![100, 512] inb_S816x512_S100x512_400_0))⟩,
    ⟨Rect.unit ![336, 0] ![100, 512] inb_S912x512_S100x512_336_0,
            k0_pay8 (F := Ideal) (View.ld (Val := Elt Ideal) (e' := .f32) w (Rect.unit (s := S816x512) ![300, 0] ![100, 512] inb_S816x512_S100x512_300_0))⟩,
    ⟨Rect.unit ![224, 0] ![100, 512] inb_S912x512_S100x512_224_0,
            k0_pay7 (F := Ideal) (k0_pay6 (View.ld (Val := Elt Ideal) (e' := .f32) w (Rect.unit (s := S816x512) ![200, 0] ![100, 512] inb_S816x512_S100x512_200_0)))⟩,
    ⟨Rect.unit ![112, 0] ![100, 512] inb_S912x512_S100x512_112_0,
            k0_pay5 (F := Ideal) (View.ld (Val := Elt Ideal) (e' := .f32) w (Rect.unit (s := S816x512) ![100, 0] ![100, 512] inb_S816x512_S100x512_100_0))⟩,
    ⟨Rect.unit ![0, 0] ![100, 512] inb_S912x512_S100x512_0_0,
            k0_pay4 (F := Ideal) (View.ld (Val := Elt Ideal) (e' := .f32) w (Rect.unit (s := S816x512) ![0, 0] ![100, 512] inb_S816x512_S100x512_0_0))⟩,
    ⟨Rect.unit ![0, 0] ![912, 512] inb_S912x512_S912x512_0_0, k0_pay3 (F := Ideal)⟩ ]

/-- **The weight scratch after the first grid point's stores, read at one entry**: at a feature's row the first layer's
    weight of that feature, elsewhere zero. -/
theorem w1x_read {sig : RefSig} {κ : Kind} {sp : Space} (v : View sig κ sp S912x512 .bf16) (f : v.ty.Contents (Elt Ideal))
    (w : FVec Ideal S816x512 .f32) (r : Fin 912) (q : Fin 512) (T : EReal)
    (hT : ∀ k : Fin 816, padRow k = r → w (ix2 k q) = T) (hpad : r.val < 896 → 100 ≤ r.val % 112 → (0 : EReal) = T) :
    v.read (Elt Ideal) (v.writes (Elt Ideal) f (w1Pieces w))
      (ix2 r q) = T := by
  have hrow : ∀ (k : Fin 816) (o : Fin 912), (k.val < 800 → o.val = 112 * (k.val / 100) + k.val % 100)
      ∧ (¬ k.val < 800 → o.val = k.val + 96) → (padRow k).val = o.val := fun k o h => by
    by_cases hk : k.val < 800
    · rw [padRow_lt hk, h.1 hk]
    · rw [padRow_ge hk, h.2 hk]
  refine read_group v f _ _ _ _ _ _ (fun p hp => ?_) fun h0 => ?_
  · refine Eq.trans ?_ (hT (⟨800 + p.val, by omega⟩ : Fin 816) (Fin.ext (hrow _ _ (by dsimp only; omega))))
    pointwise [k0_pay13]
  refine read_group v f _ _ _ _ _ _ (fun p hp => ?_) fun h1 => ?_
  · refine Eq.trans ?_ (hT (⟨700 + p.val, by omega⟩ : Fin 816) (Fin.ext (hrow _ _ (by dsimp only; omega))))
    pointwise [k0_pay12]
  refine read_group v f _ _ _ _ _ _ (fun p hp => ?_) fun h2 => ?_
  · refine Eq.trans ?_ (hT (⟨600 + p.val, by omega⟩ : Fin 816) (Fin.ext (hrow _ _ (by dsimp only; omega))))
    pointwise [k0_pay11]
  refine read_group v f _ _ _ _ _ _ (fun p hp => ?_) fun h3 => ?_
  · refine Eq.trans ?_ (hT (⟨500 + p.val, by omega⟩ : Fin 816) (Fin.ext (hrow _ _ (by dsimp only; omega))))
    pointwise [k0_pay10]
  refine read_group v f _ _ _ _ _ _ (fun p hp => ?_) fun h4 => ?_
  · refine Eq.trans ?_ (hT (⟨400 + p.val, by omega⟩ : Fin 816) (Fin.ext (hrow _ _ (by dsimp only; omega))))
    pointwise [k0_pay9]
  refine read_group v f _ _ _ _ _ _ (fun p hp => ?_) fun h5 => ?_
  · refine Eq.trans ?_ (hT (⟨300 + p.val, by omega⟩ : Fin 816) (Fin.ext (hrow _ _ (by dsimp only; omega))))
    pointwise [k0_pay8]
  refine read_group v f _ _ _ _ _ _ (fun p hp => ?_) fun h6 => ?_
  · refine Eq.trans ?_ (hT (⟨200 + p.val, by omega⟩ : Fin 816) (Fin.ext (hrow _ _ (by dsimp only; omega))))
    pointwise [k0_pay7, k0_pay6]
  refine read_group v f _ _ _ _ _ _ (fun p hp => ?_) fun h7 => ?_
  · refine Eq.trans ?_ (hT (⟨100 + p.val, by omega⟩ : Fin 816) (Fin.ext (hrow _ _ (by dsimp only; omega))))
    pointwise [k0_pay5]
  refine read_group v f _ _ _ _ _ _ (fun p hp => ?_) fun h8 => ?_
  · refine Eq.trans ?_ (hT (⟨0 + p.val, by omega⟩ : Fin 816) (Fin.ext (hrow _ _ (by dsimp only; omega))))
    pointwise [k0_pay4]
  refine read_group v f _ _ _ _ _ _ (fun p hp => ?_) fun h9 => ?_
  · rw [← hpad (by omega) (by omega)]
    pointwise [k0_pay3]
  · omega

/-- At feature `k`'s row, its weights; -/
theorem w1x_row {sig : RefSig} {κ : Kind} {sp : Space} (v : View sig κ sp S912x512 .bf16) (f : v.ty.Contents (Elt Ideal))
    (w : FVec Ideal S816x512 .f32) (k : Fin 816) (q : Fin 512) :
    v.read (Elt Ideal) (v.writes (Elt Ideal) f (w1Pieces w)) (ix2 (padRow k) q) = w (ix2 k q) := by
  refine w1x_read v f w _ _ _ (fun k' hk => by rw [padRow_injective hk]) fun h1 h2 => ?_
  by_cases hk : k.val < 800
  · rw [padRow_lt hk] at h1 h2; omega
  · rw [padRow_ge hk] at h1 h2; omega

/-- at a row that is no feature's, zero. -/
theorem w1x_pad {sig : RefSig} {κ : Kind} {sp : Space} (v : View sig κ sp S912x512 .bf16) (f : v.ty.Contents (Elt Ideal))
    (w : FVec Ideal S816x512 .f32) (r : Fin 912) (q : Fin 512) (h1 : r.val < 896) (h2 : 100 ≤ r.val % 112) :
    v.read (Elt Ideal) (v.writes (Elt Ideal) f (w1Pieces w)) (ix2 r q) = (0 : EReal) := by
  refine w1x_read v f w _ _ _ (fun k hk => ?_) fun _ _ => rfl
  rw [← hk] at h1 h2
  by_cases hk : k.val < 800
  · rw [padRow_lt hk] at h1 h2; omega
  · rw [padRow_ge hk] at h1 h2; omega

end Cert.Fight

end
-- ==== Proof.KernelPoints.lean ====
/- What the kernel's blocks hold at each grid point, and what the scratches it carries hold: the tables, the padded first
   layer and the other weights, all stored at the first point and unchanged after it. -/
module

public import proofs.«01_k».proof.Proof.KernelNet
public import proofs.«01_k».proof.Proof.KernelFeat
public import proofs.«01_k».proof.Proof.Gen.KernelIdeal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Fight

variable (m : (ℓ : Loc nD τ sig) → Buf (Elt Ideal) ℓ) (c : Dev nD)

/-- The argument arrays core `c` is launched with. -/
def kArgs : Args where
  x := m ((c : Thread nD τ).loc main_arg0)
  ft := m ((c : Thread nD τ).loc main_arg1)
  ab := m ((c : Thread nD τ).loc main_arg2)
  W1 := m ((c : Thread nD τ).loc main_arg3)
  b1 := m ((c : Thread nD τ).loc main_arg4)
  W2 := m ((c : Thread nD τ).loc main_arg5)
  b2 := m ((c : Thread nD τ).loc main_arg6)
  Ww := m ((c : Thread nD τ).loc main_arg7)
  bw := m ((c : Thread nD τ).loc main_arg8)
  Wa := m ((c : Thread nD τ).loc main_arg9)
  ba := m ((c : Thread nD τ).loc main_arg10)
  Vw := m ((c : Thread nD τ).loc main_arg11)
  cw := m ((c : Thread nD τ).loc main_arg12)
  Va := m ((c : Thread nD τ).loc main_arg13)
  ca := m ((c : Thread nD τ).loc main_arg14)

/-- Where each window's block lies: the sample windows move along the samples, every other window stays. -/
theorem idx : ∀ t : Fin cfg0.N, win0_0.index t = ![0, t.val] ∧ win0_1.index t = ![0, 0] ∧ win0_2.index t = ![0, 0]
    ∧ win0_3.index t = ![0, 0] ∧ win0_4.index t = ![0] ∧ win0_5.index t = ![0, 0] ∧ win0_6.index t = ![0]
    ∧ win0_7.index t = ![0, 0] ∧ win0_8.index t = ![0] ∧ win0_9.index t = ![0, 0] ∧ win0_10.index t = ![0]
    ∧ win0_11.index t = ![0, 0] ∧ win0_12.index t = ![0] ∧ win0_13.index t = ![0, 0] ∧ win0_14.index t = ![0]
    ∧ win0_15.index t = ![0, t.val] ∧ win0_16.index t = ![0, t.val] :=
  (by decide +kernel : ∀ t : Fin grid0.N, _)

/-- The samples reach the region transposed, -/
theorem V_v0 : V m c main_v0 = transpose S24x16384 [1, 0] (m ((c : Thread nD τ).loc main_arg0)) transposes_S16384x24_S24x16384_1_0 := by
  show StableHlo.after hostOps0 (fun b => m (c, b)) (Proc.tc.devRef main_v0) = _
  after_results

/-- the ability table too, -/
theorem V_v1 : V m c main_v1 = transpose S100x241 [1, 0] (m ((c : Thread nD τ).loc main_arg2)) transposes_S241x100_S100x241_1_0 := by
  show StableHlo.after hostOps0 (fun b => m (c, b)) (Proc.tc.devRef main_v1) = _
  after_results

/-- and the first layer's weights. -/
theorem V_v2 : V m c main_v2 = transpose S816x512 [1, 0] (m ((c : Thread nD τ).loc main_arg3)) transposes_S512x816_S816x512_1_0 := by
  show StableHlo.after hostOps0 (fun b => m (c, b)) (Proc.tc.devRef main_v2) = _
  after_results

theorem blk0 (t : Fin cfg0.N) (s : Fin 24) (y : Fin 4096) (i : Fin 16384) (hi : i.val = 4096 * t.val + y.val) :
    iblk m c 0 t (ix2 s y) = (kArgs m c).x (ix2 i s) := by
  have h : V m c main_v0 (ix2 s i) = (kArgs m c).x (ix2 i s) := by
    rw [V_v0]
    unfold kArgs
    pointwise
  rw [← h]
  blk_ext [iblk, idx t]

theorem blk1 (t : Fin cfg0.N) (a : Fin 38) (b : Fin 100) : iblk m c 1 t (ix2 a b) = (kArgs m c).ft (ix2 a b) := by
  unfold kArgs
  blk_ext [iblk, V, idx t]

theorem blk2 (t : Fin cfg0.N) (a : Fin 100) (b : Fin 241) : iblk m c 2 t (ix2 a b) = (kArgs m c).ab (ix2 b a) := by
  have h : V m c main_v1 (ix2 a b) = (kArgs m c).ab (ix2 b a) := by
    rw [V_v1]
    unfold kArgs
    pointwise
  rw [← h]
  blk_ext [iblk, idx t]

theorem blk3 (t : Fin cfg0.N) (a : Fin 816) (b : Fin 512) : iblk m c 3 t (ix2 a b) = (kArgs m c).W1 (ix2 b a) := by
  have h : V m c main_v2 (ix2 a b) = (kArgs m c).W1 (ix2 b a) := by
    rw [V_v2]
    unfold kArgs
    pointwise
  rw [← h]
  blk_ext [iblk, idx t]

theorem blk4 (t : Fin cfg0.N) (a : Fin 512) : iblk m c 4 t (ix1 a) = (kArgs m c).b1 (ix1 a) := by
  unfold kArgs
  blk_ext [iblk, V, idx t]

theorem blk5 (t : Fin cfg0.N) (a : Fin 256) (b : Fin 512) : iblk m c 5 t (ix2 a b) = (kArgs m c).W2 (ix2 a b) := by
  unfold kArgs
  blk_ext [iblk, V, idx t]

theorem blk6 (t : Fin cfg0.N) (a : Fin 256) : iblk m c 6 t (ix1 a) = (kArgs m c).b2 (ix1 a) := by
  unfold kArgs
  blk_ext [iblk, V, idx t]

theorem blk7 (t : Fin cfg0.N) (a : Fin 128) (b : Fin 256) : iblk m c 7 t (ix2 a b) = (kArgs m c).Ww (ix2 a b) := by
  unfold kArgs
  blk_ext [iblk, V, idx t]

theorem blk8 (t : Fin cfg0.N) (a : Fin 128) : iblk m c 8 t (ix1 a) = (kArgs m c).bw (ix1 a) := by
  unfold kArgs
  blk_ext [iblk, V, idx t]

theorem blk9 (t : Fin cfg0.N) (a : Fin 128) (b : Fin 256) : iblk m c 9 t (ix2 a b) = (kArgs m c).Wa (ix2 a b) := by
  unfold kArgs
  blk_ext [iblk, V, idx t]

theorem blk10 (t : Fin cfg0.N) (a : Fin 128) : iblk m c 10 t (ix1 a) = (kArgs m c).ba (ix1 a) := by
  unfold kArgs
  blk_ext [iblk, V, idx t]

theorem blk11 (t : Fin cfg0.N) (a : Fin 1) (b : Fin 128) : iblk m c 11 t (ix2 a b) = (kArgs m c).Vw (ix2 a b) := by
  unfold kArgs
  blk_ext [iblk, V, idx t]

theorem blk12 (t : Fin cfg0.N) (a : Fin 1) : iblk m c 12 t (ix1 a) = (kArgs m c).cw (ix1 a) := by
  unfold kArgs
  blk_ext [iblk, V, idx t]

theorem blk13 (t : Fin cfg0.N) (a : Fin 1) (b : Fin 128) : iblk m c 13 t (ix2 a b) = (kArgs m c).Va (ix2 a b) := by
  unfold kArgs
  blk_ext [iblk, V, idx t]

theorem blk14 (t : Fin cfg0.N) (a : Fin 1) : iblk m c 14 t (ix1 a) = (kArgs m c).ca (ix1 a) := by
  unfold kArgs
  blk_ext [iblk, V, idx t]

/-! ## What the first point stores besides the padded layer -/

theorem pay1_blk (t : Fin cfg0.N) (q : Fin 100) (p : Fin 38) :
    k0_pay1 (F := Ideal) (iblk m c 1 t) (ix2 q p) = (kArgs m c).ft (ix2 p q) := by
  rw [← blk1 m c t]
  pointwise [k0_pay1]

theorem pay2_blk (t : Fin cfg0.N) (q : Fin 100) (p : Fin 241) :
    k0_pay2 (F := Ideal) (iblk m c 2 t) (ix2 q p) = (kArgs m c).ab (ix2 p q) := by
  rw [← blk2 m c t]
  pointwise [k0_pay2]

theorem pay15_blk (t : Fin cfg0.N) (a : Fin 256) (b : Fin 512) :
    k0_pay15 (F := Ideal) (iblk m c 5 t) (ix2 a b) = (kArgs m c).W2 (ix2 a b) := by
  rw [← blk5 m c t]
  pointwise [k0_pay15]

theorem pay16_blk (t : Fin cfg0.N) (a : Fin 128) (b : Fin 256) :
    k0_pay16 (F := Ideal) (iblk m c 7 t) (ix2 a b) = (kArgs m c).Ww (ix2 a b) := by
  rw [← blk7 m c t]
  pointwise [k0_pay16]

theorem pay17_blk (t : Fin cfg0.N) (a : Fin 128) (b : Fin 256) :
    k0_pay17 (F := Ideal) (iblk m c 9 t) (ix2 a b) = (kArgs m c).Wa (ix2 a b) := by
  rw [← blk9 m c t]
  pointwise [k0_pay17]

/-! ## The carried scratches -/

/-- What the scratches the kernel carries hold after point `n`: both tables transposed, the padded first layer (the
    weights at the features' rows, zero at the others), and the three other weight matrices. -/
structure Carried (n : ℕ) (hn : n < cfg0.N) : Prop where
  ft : ∀ (q : Fin 100) (p : Fin 38), (outsAt0 m c n hn).2.2.1 (ix2 q p) = (kArgs m c).ft (ix2 p q)
  ab : ∀ (q : Fin 100) (p : Fin 241), (outsAt0 m c n hn).2.2.2.1 (ix2 q p) = (kArgs m c).ab (ix2 p q)
  w1 : ∀ (k : Fin 816) (q : Fin 512), (outsAt0 m c n hn).2.2.2.2.1 (ix2 (padRow k) q) = (kArgs m c).W1 (ix2 q k)
  pad : ∀ (r : Fin 912) (q : Fin 512), r.val < 896 → 100 ≤ r.val % 112 → (outsAt0 m c n hn).2.2.2.2.1 (ix2 r q) = (0 : EReal)
  w2 : ∀ (a : Fin 256) (b : Fin 512), (outsAt0 m c n hn).2.2.2.2.2.2.1 (ix2 a b) = (kArgs m c).W2 (ix2 a b)
  ww : ∀ (a : Fin 128) (b : Fin 256), (outsAt0 m c n hn).2.2.2.2.2.2.2.1 (ix2 a b) = (kArgs m c).Ww (ix2 a b)
  wa : ∀ (a : Fin 128) (b : Fin 256), (outsAt0 m c n hn).2.2.2.2.2.2.2.2 (ix2 a b) = (kArgs m c).Wa (ix2 a b)

/-- The first point stores them. -/
theorem carried_first (t : Fin cfg0.N) (h : t.val % 4 = 0) : Carried m c t.val t.isLt where
  ft q p := by
    rw [outsAt0_A m c t h]
    frame_out
    exact pay1_blk m c t q p
  ab q p := by
    rw [outsAt0_A m c t h]
    frame_out
    exact pay2_blk m c t q p
  w1 k q := by
    rw [outsAt0_A m c t h]
    frame_out
    rw [← View.read_writes_junk_eq_canon (View.whole cc0_scratch2)]
    exact (w1x_row _ _ (iblk m c 3 t) k q).trans (blk3 m c t k q)
  pad r q h1 h2 := by
    rw [outsAt0_A m c t h]
    frame_out
    rw [← View.read_writes_junk_eq_canon (View.whole cc0_scratch2)]
    exact w1x_pad _ _ (iblk m c 3 t) r q h1 h2
  w2 a b := by
    rw [outsAt0_A m c t h]
    frame_out
    exact pay15_blk m c t a b
  ww a b := by
    rw [outsAt0_A m c t h]
    frame_out
    exact pay16_blk m c t a b
  wa a b := by
    rw [outsAt0_A m c t h]
    frame_out
    exact pay17_blk m c t a b

/-- A later point keeps them. -/
theorem carried_next (t : Fin cfg0.N) (h : ¬ t.val % 4 = 0) (H : Carried m c (t.val - 1) (by have := t.isLt; omega)) :
    Carried m c t.val t.isLt := by
  have hB := outsAt0_B m c t h
  constructor
  · intro q p; rw [hB]; exact H.ft q p
  · intro q p; rw [hB]; exact H.ab q p
  · intro k q; rw [hB]; exact H.w1 k q
  · intro r q h1 h2; rw [hB]; exact H.pad r q h1 h2
  · intro a b; rw [hB]; exact H.w2 a b
  · intro a b; rw [hB]; exact H.ww a b
  · intro a b; rw [hB]; exact H.wa a b

/-- **After every point the carried scratches hold what the first point stored.** -/
theorem carried : ∀ (n : ℕ) (hn : n < cfg0.N), Carried m c n hn
  | 0, hn => carried_first m c ⟨0, hn⟩ rfl
  | n + 1, hn => by
    have hN : cfg0.N = 4 := N_0
    exact carried_next m c ⟨n + 1, hn⟩ (by dsimp only; omega) (carried n (by omega))

end Cert.Fight

end
-- ==== Proof.KernelArray.lean ====
/- What the kernel's two result arrays hold when the region ends: at every sample the network's two results, with the
   kernel's activation. -/
module

public import proofs.«01_k».proof.Proof.KernelPoints

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Fight

variable (m : (ℓ : Loc nD τ sig) → Buf (Elt Ideal) ℓ) (c : Dev nD)

/-- A network read off padded weights and blocks is the arguments' network, where each entry is the argument's. -/
theorem netOf_eq (A : Args) (w1 : FVec Ideal S912x512 .bf16) (b1 : FVec Ideal S512 .f32)
    (w2 : FVec Ideal S256x512 .bf16) (b2 : FVec Ideal S256 .f32) (ww : FVec Ideal S128x256 .bf16) (bw : FVec Ideal S128 .f32)
    (wa : FVec Ideal S128x256 .bf16) (ba : FVec Ideal S128 .f32) (vw : FVec Ideal S1x128 .f32) (cw : FVec Ideal S1 .f32)
    (va : FVec Ideal S1x128 .f32) (ca : FVec Ideal S1 .f32)
    (h1 : ∀ k q, w1 (ix2 (padRow k) q) = A.W1 (ix2 q k)) (hb1 : ∀ a, b1 (ix1 a) = A.b1 (ix1 a))
    (h2 : ∀ a b, w2 (ix2 a b) = A.W2 (ix2 a b)) (hb2 : ∀ a, b2 (ix1 a) = A.b2 (ix1 a))
    (hw : ∀ a b, ww (ix2 a b) = A.Ww (ix2 a b)) (hbw : ∀ a, bw (ix1 a) = A.bw (ix1 a))
    (ha : ∀ a b, wa (ix2 a b) = A.Wa (ix2 a b)) (hba : ∀ a, ba (ix1 a) = A.ba (ix1 a))
    (hvw : ∀ a b, vw (ix2 a b) = A.Vw (ix2 a b)) (hcw : ∀ a, cw (ix1 a) = A.cw (ix1 a))
    (hva : ∀ a b, va (ix2 a b) = A.Va (ix2 a b)) (hca : ∀ a, ca (ix1 a) = A.ca (ix1 a)) :
    netOf w1 b1 w2 b2 ww bw wa ba vw cw va ca = A.net := by
  unfold netOf Args.net
  congr 1
  · exact funext fun q => funext fun k => h1 k q
  · exact funext hb1
  · exact funext fun a => funext (h2 a)
  · exact funext hb2
  · exact funext fun a => funext (hw a)
  · exact funext hbw
  · exact funext fun a => funext (ha a)
  · exact funext hba
  · exact funext fun a => funext (hvw a)
  · exact funext hcw
  · exact funext fun a => funext (hva a)
  · exact funext hca

/-- A feature row read off the carried tables and the sample block is the sample's, where each entry is the argument's. -/
theorem feat_eq (A : Args) (i : Fin 16384) (ft : FVec Ideal S100x38 .bf16) (ab : FVec Ideal S100x241 .bf16)
    (x : FVec Ideal S24x4096 .f32) (y : Fin 4096) (hft : ∀ q p, ft (ix2 q p) = A.ft (ix2 p q))
    (hab : ∀ q p, ab (ix2 q p) = A.ab (ix2 p q)) (hx : ∀ s, x (ix2 s y) = A.x (ix2 i s)) (k : Fin 816) :
    feat (fun q r => ft (ix2 r q)) (fun q r => ab (ix2 r q)) (fun s => x (ix2 s y)) k = A.row i k := by
  have e1 : (fun (q : Fin 38) (r : Fin 100) => ft (ix2 r q)) = fun p q => A.ft (ix2 p q) :=
    funext fun p => funext fun q => hft q p
  have e2 : (fun (q : Fin 241) (r : Fin 100) => ab (ix2 r q)) = fun p q => A.ab (ix2 p q) :=
    funext fun p => funext fun q => hab q p
  have e3 : (fun s : Fin 24 => x (ix2 s y)) = fun s => A.x (ix2 i s) := funext hx
  unfold Args.row
  exact (congrArg (fun f => feat f _ _ k) e1).trans ((congrArg (fun f => feat _ f _ k) e2).trans
    (congrArg (fun f => feat _ _ f k) e3))

/-- A scratch read back whole after the stores `L`: what the stores leave. -/
theorem readCov_whole {sig : RefSig} {κ : Kind} {sp : Space} {e : EltTy} {N W : ℕ}
    (v : View sig κ sp (⟨2, ![N, W]⟩ : Shape) e) (L : List (View.Piece (Elt Ideal) (⟨2, ![N, W]⟩ : Shape) e))
    (inb : ∀ a : Fin 2, (![0, 0] : Fin 2 → ℕ) a + (![N, W] : Fin 2 → ℕ) a ≤ (![N, W] : Fin 2 → ℕ) a) :
    v.readCov L (Rect.unit (s := ⟨2, ![N, W]⟩) ![0, 0] ![N, W] inb).toLoadRect
      = v.read (Elt Ideal) (v.writes (Elt Ideal) v.junk L) := by
  have hz : (![0, 0] : Fin 2 → ℕ) = fun _ => 0 := funext fun a => by fin_cases a <;> rfl
  exact View.ld_unit_zero (S := ⟨2, ![N, W]⟩) hz inb _

/-- The win probability of one sample, over any feature block and weights that agree with the arguments there. -/
theorem win_of (t : Fin cfg0.N) (y : Fin 4096) (i : Fin 16384) (E : FVec Ideal S912x4096 .bf16) (w1 : FVec Ideal S912x512 .bf16)
    (w2 : FVec Ideal S256x512 .bf16) (ww : FVec Ideal S128x256 .bf16) (wa : FVec Ideal S128x256 .bf16)
    (hE : ∀ k, E (ix2 (padRow k) y) = (kArgs m c).row i k) (h1 : ∀ k q, w1 (ix2 (padRow k) q) = (kArgs m c).W1 (ix2 q k))
    (hz : ∀ (r : Fin 912) (q : Fin 512), r.val < 896 → 100 ≤ r.val % 112 → w1 (ix2 r q) = (0 : EReal))
    (h2 : ∀ a b, w2 (ix2 a b) = (kArgs m c).W2 (ix2 a b)) (hw : ∀ a b, ww (ix2 a b) = (kArgs m c).Ww (ix2 a b))
    (ha : ∀ a b, wa (ix2 a b) = (kArgs m c).Wa (ix2 a b)) :
    k0_pay36 (F := Ideal) (k0_pay34 E w1 (constant S4096x512 .f32 0x00000000#32) (iblk m c 4 t) w2 (iblk m c 6 t) ww (iblk m c 8 t))
        (k0_pay35 E w1 (constant S4096x512 .f32 0x00000000#32) (iblk m c 4 t) w2 (iblk m c 6 t) ww (iblk m c 8 t))
        (iblk m c 11 t) (iblk m c 12 t) (ix2 0 y)
      = (kArgs m c).win mishK i := by
  refine (win_block E w1 _ w2 _ ww _ wa (iblk m c 10 t) _ _ (iblk m c 13 t) (iblk m c 14 t) hz y).trans ?_
  exact congrArg₂ (fun P f => win P mishK f) (netOf_eq _ _ _ _ _ _ _ _ _ _ _ _ _ h1 (blk4 m c t) h2 (blk6 m c t) hw
    (blk8 m c t) ha (blk10 m c t) (blk11 m c t) (blk12 m c t) (blk13 m c t) (blk14 m c t)) (funext hE)

/-- The advantage of one sample, in the same way. -/
theorem adv_of (t : Fin cfg0.N) (y : Fin 4096) (i : Fin 16384) (E : FVec Ideal S912x4096 .bf16) (w1 : FVec Ideal S912x512 .bf16)
    (w2 : FVec Ideal S256x512 .bf16) (ww : FVec Ideal S128x256 .bf16) (wa : FVec Ideal S128x256 .bf16)
    (hE : ∀ k, E (ix2 (padRow k) y) = (kArgs m c).row i k) (h1 : ∀ k q, w1 (ix2 (padRow k) q) = (kArgs m c).W1 (ix2 q k))
    (hz : ∀ (r : Fin 912) (q : Fin 512), r.val < 896 → 100 ≤ r.val % 112 → w1 (ix2 r q) = (0 : EReal))
    (h2 : ∀ a b, w2 (ix2 a b) = (kArgs m c).W2 (ix2 a b)) (hw : ∀ a b, ww (ix2 a b) = (kArgs m c).Ww (ix2 a b))
    (ha : ∀ a b, wa (ix2 a b) = (kArgs m c).Wa (ix2 a b)) :
    k0_pay37 (F := Ideal) (k0_pay31 E w1 (constant S4096x512 .f32 0x00000000#32) (iblk m c 4 t) w2 (iblk m c 6 t)) wa
        (iblk m c 10 t) (iblk m c 13 t) (iblk m c 14 t) (ix2 0 y)
      = (kArgs m c).adv mishK i := by
  refine (adv_block E w1 _ w2 _ ww (iblk m c 8 t) wa _ (iblk m c 11 t) (iblk m c 12 t) _ _ hz y).trans ?_
  exact congrArg₂ (fun P f => adv P mishK f) (netOf_eq _ _ _ _ _ _ _ _ _ _ _ _ _ h1 (blk4 m c t) h2 (blk6 m c t) hw
    (blk8 m c t) ha (blk10 m c t) (blk11 m c t) (blk12 m c t) (blk13 m c t) (blk14 m c t)) (funext hE)

/-! ## The two stores of a grid point -/

/-- The win probability stored at the first point. -/
theorem win_first (t : Fin cfg0.N) (h : t.val % 4 = 0) (y : Fin 4096) (i : Fin 16384)
    (hi : i.val = 4096 * t.val + y.val) : (outsAt0 m c t.val t.isLt).1 (ix2 0 y) = (kArgs m c).win mishK i := by
  rw [outsAt0_A m c t h]
  frame_out
  simp only [readCov_whole]
  refine win_of m c t y i _ _ _ _ (k0_pay17 (F := Ideal) (iblk m c 9 t)) (fun k => ?_)
    (fun k q => (w1x_row (View.whole cc0_scratch2) _ (iblk m c 3 t) k q).trans (blk3 m c t k q))
    (fun r q h1 h2 => w1x_pad (View.whole cc0_scratch2) _ (iblk m c 3 t) r q h1 h2)
    (pay15_blk m c t) (pay16_blk m c t) (pay17_blk m c t)
  exact (exb_read (iblk m c 0 t) _ _ (View.whole cc0_scratch3) _
      [⟨Rect.unit ![0, 0] ![912, 4096] inb_S912x4096_S912x4096_0_0, k0_pay14 (F := Ideal)⟩] k y).trans
    (feat_eq (kArgs m c) i _ _ _ y (pay1_blk m c t) (pay2_blk m c t) (fun s => blk0 m c t s y i hi) k)

/-- The win probability stored at a later point. -/
theorem win_next (t : Fin cfg0.N) (h : ¬ t.val % 4 = 0) (y : Fin 4096) (i : Fin 16384)
    (hi : i.val = 4096 * t.val + y.val) : (outsAt0 m c t.val t.isLt).1 (ix2 0 y) = (kArgs m c).win mishK i := by
  have H := carried m c (t.val - 1) (by have := t.isLt; omega)
  rw [outsAt0_B m c t h]
  frame_out
  simp only [read_unread_whole]
  refine win_of m c t y i _ _ _ _ (outsAt0 m c (t.val - 1) (by have := t.isLt; omega)).2.2.2.2.2.2.2.2
    (fun k => ?_) H.w1 H.pad H.w2 H.ww H.wa
  exact (exb_read (iblk m c 0 t) _ _ (View.whole cc0_scratch3) _ [] k y).trans
    (feat_eq (kArgs m c) i _ _ _ y H.ft H.ab (fun s => blk0 m c t s y i hi) k)

/-- The win probability stored at any point. -/
theorem win_at (t : Fin cfg0.N) (y : Fin 4096) (i : Fin 16384) (hi : i.val = 4096 * t.val + y.val) :
    (outsAt0 m c t.val t.isLt).1 (ix2 0 y) = (kArgs m c).win mishK i := by
  by_cases h : t.val % 4 = 0
  · exact win_first m c t h y i hi
  · exact win_next m c t h y i hi

/-- The advantage stored at the first point. -/
theorem adv_first (t : Fin cfg0.N) (h : t.val % 4 = 0) (y : Fin 4096) (i : Fin 16384)
    (hi : i.val = 4096 * t.val + y.val) : (outsAt0 m c t.val t.isLt).2.1 (ix2 0 y) = (kArgs m c).adv mishK i := by
  rw [outsAt0_A m c t h]
  frame_out
  simp only [readCov_whole]
  refine adv_of m c t y i _ _ _ (k0_pay16 (F := Ideal) (iblk m c 7 t)) _ (fun k => ?_)
    (fun k q => (w1x_row (View.whole cc0_scratch2) _ (iblk m c 3 t) k q).trans (blk3 m c t k q))
    (fun r q h1 h2 => w1x_pad (View.whole cc0_scratch2) _ (iblk m c 3 t) r q h1 h2)
    (pay15_blk m c t) (pay16_blk m c t) (pay17_blk m c t)
  exact (exb_read (iblk m c 0 t) _ _ (View.whole cc0_scratch3) _
      [⟨Rect.unit ![0, 0] ![912, 4096] inb_S912x4096_S912x4096_0_0, k0_pay14 (F := Ideal)⟩] k y).trans
    (feat_eq (kArgs m c) i _ _ _ y (pay1_blk m c t) (pay2_blk m c t) (fun s => blk0 m c t s y i hi) k)

/-- The advantage stored at a later point. -/
theorem adv_next (t : Fin cfg0.N) (h : ¬ t.val % 4 = 0) (y : Fin 4096) (i : Fin 16384)
    (hi : i.val = 4096 * t.val + y.val) : (outsAt0 m c t.val t.isLt).2.1 (ix2 0 y) = (kArgs m c).adv mishK i := by
  have H := carried m c (t.val - 1) (by have := t.isLt; omega)
  rw [outsAt0_B m c t h]
  frame_out
  simp only [read_unread_whole]
  refine adv_of m c t y i _ _ _ (outsAt0 m c (t.val - 1) (by have := t.isLt; omega)).2.2.2.2.2.2.2.1 _
    (fun k => ?_) H.w1 H.pad H.w2 H.ww H.wa
  exact (exb_read (iblk m c 0 t) _ _ (View.whole cc0_scratch3) _ [] k y).trans
    (feat_eq (kArgs m c) i _ _ _ y H.ft H.ab (fun s => blk0 m c t s y i hi) k)

/-- The advantage stored at any point. -/
theorem adv_at (t : Fin cfg0.N) (y : Fin 4096) (i : Fin 16384) (hi : i.val = 4096 * t.val + y.val) :
    (outsAt0 m c t.val t.isLt).2.1 (ix2 0 y) = (kArgs m c).adv mishK i := by
  by_cases h : t.val % 4 = 0
  · exact adv_first m c t h y i hi
  · exact adv_next m c t h y i hi

/-- **The win probabilities the region ends with.** -/
theorem final_win : (dats m 0 c).arrAt 15 cfg0.N = fun z => (kArgs m c).win mishK (z 1) := by
  refine (dats m 0 c).arrAt_eq_of_covers 15 _ (by decide +kernel) fun t hf y => ?_
  blk_simp
  rw [after0_15]
  have hy : y = (ix2 0 (y 1) : S1x4096.Idx) := by blk_ext
  have hi : ((win0_15.blk t).view.emb y 1).val = 4096 * t.val + (y 1).val := by
    blk_simp [idx t]
    omega
  rw [hy] at hi ⊢
  exact win_at m c t (y 1) _ hi

/-- **The advantages the region ends with.** -/
theorem final_adv : (dats m 0 c).arrAt 16 cfg0.N = fun z => (kArgs m c).adv mishK (z 1) := by
  refine (dats m 0 c).arrAt_eq_of_covers 16 _ (by decide +kernel) fun t hf y => ?_
  blk_simp
  rw [after0_16]
  have hy : y = (ix2 0 (y 1) : S1x4096.Idx) := by blk_ext
  have hi : ((win0_16.blk t).view.emb y 1).val = 4096 * t.val + (y 1).val := by
    blk_simp [idx t]
    omega
  rw [hy] at hi ⊢
  exact adv_at m c t (y 1) _ hi

end Cert.Fight

end
-- ==== Proof.KernelRun.lean ====
/- The kernel's run: the two results it ends with, each a column with one entry per sample, and its arguments unchanged. -/
module

public import proofs.«01_k».proof.Proof.KernelArray

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Fight

/-- A row of 16384 numbers reshaped to a column, read at an index. -/
theorem column_apply (v : FVec Ideal S1x16384 .f32) (z : S16384x1.Idx) :
    shapeCast S16384x1 v shapeCasts_S1x16384_S16384x1 z = v (ix2 0 (z 0)) := by
  refine shapeCast_apply v shapeCasts_S1x16384_S16384x1 z (ix2 0 (z 0)) ?_
  have h1 : (z 1).val = 0 := by have := (z 1).isLt; change (z 1).val < 1 at this; omega
  rewrite [Shape.rowMajor_val_two, Shape.rowMajor_val_two, h1]
  show 0 * 16384 + (z 0).val = (z 0).val * 1 + 0
  omega

variable (m : (ℓ : Loc nD τ sig) → Buf (Elt Ideal) ℓ) (c : Dev nD)

/-- What the lines after the region leave in the first result: the win probabilities as a column. -/
theorem tail_v4 : Pipeline.afterTail₀ cfgs (dats m) 0 (V0 m) [hostOps1] c main_v4
    = (fun z : S16384x1.Idx => (kArgs m c).win mishK (z 0)) := by
  show StableHlo.after hostOps1 (Pipeline.withArrays spec0 c (V0 m c) fun w => (dats m 0 c).arrAt w cfg0.N)
    (Proc.devRef .tc main_v4) = _
  after_results
  erw [Pipeline.withArrays_arr spec0 (by decide) c (V0 m c) (fun w => (dats m 0 c).arrAt w cfg0.N) 15]
  rw [final_win]
  exact funext fun z => column_apply _ z

/-- What they leave in the second result: the advantages as a column. -/
theorem tail_v5 : Pipeline.afterTail₀ cfgs (dats m) 0 (V0 m) [hostOps1] c main_v5
    = (fun z : S16384x1.Idx => (kArgs m c).adv mishK (z 0)) := by
  show StableHlo.after hostOps1 (Pipeline.withArrays spec0 c (V0 m c) fun w => (dats m 0 c).arrAt w cfg0.N)
    (Proc.devRef .tc main_v5) = _
  after_results
  erw [Pipeline.withArrays_arr spec0 (by decide) c (V0 m c) (fun w => (dats m 0 c).arrAt w cfg0.N) 16]
  rw [final_adv]
  exact funext fun z => column_apply _ z

/-- **The kernel's run**: from any memory it ends with the network's two results at every sample, computed from its
    arguments with the kernel's activation. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v4) = (fun z : S16384x1.Idx => (kArgs m c).win mishK (z 0))
      ∧ r.2.mem ((c.tc : Thread nD τ).loc main_v5) = (fun z : S16384x1.Idx => (kArgs m c).adv mishK (z 0))) :=
  (θ_run defs _ _).mono (fun _ h c =>
    ⟨((h c).2 main_v4 (by decide)).trans (tail_v4 m c), ((h c).2 main_v5 (by decide)).trans (tail_v5 m c)⟩)
    (run_main m ρ)

end Cert.Fight

end
-- ==== Proof.Lookup.lean ====
/- The reference's table lookup: a row of a table at an integer position, a negative position counted from the end, and
   a not-a-number pattern where the position is outside the table. At a position inside the table it is that row. -/
module

public import proofs.«01_k».proof.Proof.Spec
public import proofs.«01_k».proof.Proof.Gen.ReferenceIdeal.Read

@[expose] public section

set_option maxRecDepth 16384

noncomputable section

open Idealize.ShloMosaic
open Cert.ReferenceIdeal Cert.ReferenceIdeal.Gen

namespace Cert.Fight

/-- An index of a two-axis array by its two coordinates. -/
theorem idx2_ext {n k : ℕ} {y : (⟨2, ![n, k]⟩ : Shape).Idx} {a : Fin n} {b : Fin k} (h0 : (y 0).val = a.val)
    (h1 : (y 1).val = b.val) : y = ix2 a b :=
  funext fun d => match d with
    | ⟨0, _⟩ => Fin.ext h0
    | ⟨1, _⟩ => Fin.ext h1

/-- An index of a one-axis array by its coordinate. -/
theorem idx1_ext {n : ℕ} {y : (⟨1, ![n]⟩ : Shape).Idx} {a : Fin n} (h0 : (y 0).val = a.val) : y = ix1 a :=
  funext fun d => match d with
    | ⟨0, _⟩ => Fin.ext h0

section Rows

variable {N C R w : ℕ} {α : Type}

/-- The dimension numbers of taking whole rows of an `N × C` table at `R` positions. -/
abbrev rowDims (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The rows taken, read at an entry: the table at the position, read signed and held inside the table. -/
theorem rows_apply (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (i : Fin R) (q : Fin C) (p : Fin N)
    (hp : (idx (ix2 i 0)).toInt.toNat = p.val) :
    Host.gather (rowDims wf) x idx (ix2 i q) = x (ix2 p q) := by
  unfold Host.gather
  refine congrArg x (idx2_ext ?_ ?_)
  · show (rowDims wf).start (ix2 i q) idx 0 + (rowDims wf).batchCoord (ix2 i q) 0 + (rowDims wf).offCoord (ix2 i q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowDims wf).startIndexMap from List.mem_singleton.mpr rfl)]
    have hsi : (rowDims wf).siIdx (ix2 i q) ⟨List.idxOf (0 : Fin 2) (rowDims wf).startIndexMap,
        List.idxOf_lt_length_iff.2 (List.mem_singleton.mpr rfl)⟩ = ix2 i 0 := idx2_ext rfl rfl
    rw [hsi, hp]
    show min p.val (N - 1) + 0 + 0 = p.val
    have := p.isLt
    omega
  · show (rowDims wf).start (ix2 i q) idx 1 + (rowDims wf).batchCoord (ix2 i q) 1 + (rowDims wf).offCoord (ix2 i q) 1 = _
    rw [GatherDims.batchCoord_eq_zero _ _ _ List.not_mem_nil]
    have h1 : (1 : Fin 2) ∉ (rowDims wf).startIndexMap := fun h => Nat.one_ne_zero (congrArg Fin.val (List.mem_singleton.mp h))
    have h2 : (1 : Fin 2) ∈ (rowDims wf).sKept :=
      ((rowDims wf).mem_sKept 1).mpr ⟨fun h => Nat.one_ne_zero (congrArg Fin.val (List.mem_singleton.mp h)), List.not_mem_nil⟩
    unfold GatherDims.start GatherDims.offCoord
    rw [dif_neg h1, dif_pos h2]
    show 0 + 0 + q.val = q.val
    omega

end Rows

/-- A position below 1000 as a 32-bit word, read signed. -/
theorem toInt_ofNat {p : ℕ} (h : p < 1000) : (BitVec.ofNat 32 p).toInt = (p : ℤ) := by
  rw [BitVec.toInt_eq_toNat_cond, BitVec.toNat_ofNat, Nat.mod_eq_of_lt (by omega), if_pos (by omega)]

/-- The positions with the negative ones counted from the end of a table of `n` rows, as a column. -/
def wrapped (n : ℕ) (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 (BitVec.ofNat 32 n)))) idx)

/-- Which of the positions lie between `0` and `n - 1`. -/
def inside (n : ℕ) (idx : IVec S16384 32) : IVec S16384x1 1 :=
  andi (cmpi .sge (wrapped n idx) (broadcastInDim S16384x1 ![] bcast_S_S16384x1 (constantI S_ 32 0#32)))
    (cmpi .sle (wrapped n idx) (broadcastInDim S16384x1 ![0, 1] bcast_S1x1_S16384x1_0_1
      (broadcastInDim S1x1 ![1] bcast_S1_S1x1_1 (constantI S1 32 (BitVec.ofNat 32 (n - 1))))))

/-- The lookup: the rows at the positions, and the not-a-number pattern where a position is outside. -/
def lookup {n : ℕ} (wf : GatherDims.WF ⟨2, ![n, 100]⟩ S16384x1 S16384x100 [1] [0] [] [0] [] 1 ![1, 100])
    (tbl : FVec Ideal ⟨2, ![n, 100]⟩ .f32) (idx : IVec S16384 32) : FVec Ideal S16384x100 .f32 :=
  select (broadcastInDim S16384x100 ![0] bcast_S16384_S16384x100_0
      (Host.reduce IntOp.andi (inside n idx) (constantI S_ 1 1#1) reducesTo_S16384x1_S16384_d1 h_S_))
    (Host.gather (rowDims wf) tbl (wrapped n idx))
    (broadcastInDim S16384x100 ![] bcast_S_S16384x100 (constant S_ .f32 0x7FC00000#32))

variable {n : ℕ} {idx : IVec S16384 32} {i : Fin 16384} {p : Fin n}

/-- A position that is not negative is left as it is. -/
theorem wrapped_apply (hn : n ≤ 1000) (h : idx (ix1 i) = BitVec.ofNat 32 p.val) :
    wrapped n idx (ix2 i 0) = BitVec.ofNat 32 p.val := by
  unfold wrapped
  rw [broadcastInDim_apply _ _ _ (ix2 i 0) (ix1 i) (fun a => match a with
    | ⟨0, _⟩ => by show i.val = if (16384 : Nat) = 1 then 0 else i.val; rw [if_neg (by decide)])]
  show Scalar.select (IntOp.cmpi .slt (idx (ix1 i)) 0#32) _ (idx (ix1 i)) = _
  have hp := p.isLt
  rw [h]
  have : IntOp.cmpi .slt (BitVec.ofNat 32 p.val) 0#32 = 0#1 := by
    simp only [IntOp.cmpi, BitVec.slt, toInt_ofNat (show p.val < 1000 by omega)]
    rw [decide_eq_false (by simp)]
    rfl
  rw [this]
  rfl

/-- A position below `n` is inside. -/
theorem inside_apply (hn : n ≤ 1000) (h : idx (ix1 i) = BitVec.ofNat 32 p.val) : inside n idx (ix2 i 0) = 1#1 := by
  have hp := p.isLt
  show IntOp.andi (IntOp.cmpi .sge (wrapped n idx (ix2 i 0)) 0#32)
    (IntOp.cmpi .sle (wrapped n idx (ix2 i 0)) (BitVec.ofNat 32 (n - 1))) = 1#1
  rw [wrapped_apply hn h]
  have h1 : IntOp.cmpi .sge (BitVec.ofNat 32 p.val) 0#32 = 1#1 := by
    simp [IntOp.cmpi, BitVec.sle, toInt_ofNat (show p.val < 1000 by omega)]
  have h2 : IntOp.cmpi .sle (BitVec.ofNat 32 p.val) (BitVec.ofNat 32 (n - 1)) = 1#1 := by
    simp only [IntOp.cmpi, BitVec.sle, toInt_ofNat (show p.val < 1000 by omega), toInt_ofNat (show n - 1 < 1000 by omega)]
    rw [decide_eq_true (by omega)]
    rfl
  rw [h1, h2]
  rfl

/-- **The lookup at a position inside the table is the table's row there.** -/
theorem lookup_apply (wf : GatherDims.WF ⟨2, ![n, 100]⟩ S16384x1 S16384x100 [1] [0] [] [0] [] 1 ![1, 100])
    (tbl : FVec Ideal ⟨2, ![n, 100]⟩ .f32) (hn : n ≤ 1000) (h : idx (ix1 i) = BitVec.ofNat 32 p.val) (q : Fin 100) :
    lookup wf tbl idx (ix2 i q) = tbl (ix2 p q) := by
  have hp := p.isLt
  unfold lookup
  have hs : ∀ (a : IVec S16384x100 1) (b d : FVec Ideal S16384x100 .f32),
      select a b d (ix2 i q) = Scalar.select (a (ix2 i q)) (b (ix2 i q)) (d (ix2 i q)) := fun _ _ _ => rfl
  rw [hs]
  rw [broadcastInDim_apply _ _ _ (ix2 i q) (ix1 i) (fun a => match a with
    | ⟨0, _⟩ => by show i.val = if (16384 : Nat) = 1 then 0 else i.val; rw [if_neg (by decide)])]
  have hr : Host.reduce IntOp.andi (inside n idx) (constantI S_ 1 1#1) reducesTo_S16384x1_S16384_d1 h_S_ (ix1 i) = 1#1 := by
    have hred : S16384x1.Reduces [1] S16384 := by decide
    rw [Host.reduce_eq_fold_single IntOp.andi (inside n idx) (constantI S_ 1 1#1) reducesTo_S16384x1_S16384_d1 hred]
    have hx : (inside n idx ∘ hred.lift (ix1 i)) = fun _ => 1#1 := by
      funext k
      have hk : hred.lift (ix1 i) k = ix2 i 0 := idx2_ext rfl (by
        have := k.isLt
        change k.val < 1 at this
        show k.val = 0
        omega)
      show inside n idx (hred.lift (ix1 i) k) = 1#1
      rw [hk]
      exact inside_apply hn h
    rw [hx]
    rfl
  rw [hr]
  show Host.gather (rowDims wf) tbl (wrapped n idx) (ix2 i q) = _
  refine rows_apply wf tbl _ i q p ?_
  rw [wrapped_apply hn h, toInt_ofNat (by omega)]
  rfl

end Cert.Fight

end
-- ==== Proof.ReferenceFeat.lean ====
/- The reference's feature row: eight looked-up table rows side by side, then sixteen dense columns. Where the eight
   positions of a sample are whole numbers inside their tables, it is the feature row of that sample. -/
module

public import proofs.«01_k».proof.Proof.Lookup

@[expose] public section

set_option maxRecDepth 16384

noncomputable section

open Idealize.ShloMosaic
open Cert.ReferenceIdeal Cert.ReferenceIdeal.Gen Cert.ReferenceIdeal.Read

namespace Cert.Fight

variable (x : FVec Ideal S16384x24 .f32) (ft : FVec Ideal S38x100 .f32) (ab : FVec Ideal S241x100 .f32)

/-- Position column `s` of the input: the whole numbers its entries convert to. -/
def position (s : Fin 8) : IVec S16384 32 :=
  shapeCast S16384 (extractStridedSlice S16384x1 ![0, s.val]
      (fptosi 32 (extractStridedSlice S16384x8 ![0, 0] x slices_S16384x24_S16384x8_0_0))
      (show S16384x8.Slices ![0, s.val] S16384x1 by revert s; decide))
    shapeCasts_S16384x1_S16384

/-- Its entry of a sample converts the sample's entry. -/
theorem position_apply (s : Fin 8) (i : Fin 16384) :
    position x s (ix1 i) = FloatOps.fptosi (F := Ideal) (φ := .f32) 32 (x (ix2 i ⟨s.val, by omega⟩)) := by
  unfold position
  rw [shapeCast_apply _ shapeCasts_S16384x1_S16384 (ix1 i) (ix2 i 0) (by
    rewrite [Shape.rowMajor_val_two, Shape.rowMajor_val_one]
    show i.val * 1 + 0 = i.val
    omega)]
  rw [extractStridedSlice_apply ![0, s.val] _ _ (ix2 i 0) (ix2 i s) (fun a => match a with
    | ⟨0, _⟩ => by show i.val = 0 + i.val; omega
    | ⟨1, _⟩ => by show s.val = s.val + 0; omega)]
  refine congrArg (FloatOps.fptosi (F := Ideal) (φ := .f32) 32) ?_
  exact extractStridedSlice_apply ![0, 0] x _ (ix2 i s) (ix2 i ⟨s.val, by omega⟩) (fun a => match a with
    | ⟨0, _⟩ => by show i.val = 0 + i.val; omega
    | ⟨1, _⟩ => by show s.val = 0 + s.val; omega)

/-- The table rows at position column `s`: of the fighters in the first two columns, of the abilities in the other six. -/
def group (s : Fin 8) : FVec Ideal S16384x100 .f32 :=
  if s.val < 2 then lookup gather_S38x100_S16384x1_S16384x100_1_0_n_n_0_1_1100_wf ft (position x s)
  else lookup gather_S241x100_S16384x1_S16384x100_1_0_n_n_0_1_1100_wf ab (position x s)

/-- The dense columns. -/
def denseCols : FVec Ideal S16384x16 .f32 := extractStridedSlice S16384x16 ![0, 8] x slices_S16384x24_S16384x16_0_8

/-- The parts the feature rows are joined from. -/
def parts : List ((s : Shape) × (s.Idx → EReal)) :=
  (List.ofFn fun s : Fin 8 => (⟨S16384x100, group x ft ab s⟩ : (s : Shape) × (s.Idx → EReal))) ++ [⟨S16384x16, denseCols x⟩]

/-- The eight lookups of the reference are the eight groups. -/
theorem groups : val_main_v4 (F := Ideal) x ft = group x ft ab 0 ∧ val_main_v7 (F := Ideal) x ft = group x ft ab 1
    ∧ val_main_v10 (F := Ideal) x ab = group x ft ab 2 ∧ val_main_v13 (F := Ideal) x ab = group x ft ab 3
    ∧ val_main_v16 (F := Ideal) x ab = group x ft ab 4 ∧ val_main_v19 (F := Ideal) x ab = group x ft ab 5
    ∧ val_main_v22 (F := Ideal) x ab = group x ft ab 6 ∧ val_main_v25 (F := Ideal) x ab = group x ft ab 7 := by
  unfold group
  refine ⟨?_, ?_, ?_, ?_, ?_, ?_, ?_, ?_⟩
  all_goals first
    | rw [if_pos (by decide)]; rfl
    | rw [if_neg (by decide)]; rfl

/-- Arrays joined from equal lists of parts are equal. -/
theorem concatenate_congr {t : Shape} (a : Fin t.rank) {xs ys : List ((s : Shape) × (s.Idx → EReal))} (e : xs = ys)
    (h : Shape.Concatenates (xs.map (·.1)) t a) : ∃ h', concatenate t a xs h = concatenate t a ys h' := by
  subst e
  exact ⟨h, rfl⟩

/-- The feature rows are the parts joined. -/
theorem v27_parts : ∃ h, val_main_v27 (F := Ideal) x ft ab = concatenate S16384x816 1 (parts x ft ab) h := by
  obtain ⟨e0, e1, e2, e3, e4, e5, e6, e7⟩ := groups x ft ab
  unfold val_main_v27
  refine concatenate_congr 1 ?_ _
  rw [e0, e1, e2, e3, e4, e5, e6, e7]
  rfl

/-- Columns `100 s` to `100 s + 99` of the feature rows are group `s`. -/
theorem v27_group (s : Fin 8) (q : Fin 100) (i : Fin 16384) (k : Fin 816) (hk : k.val = 100 * s.val + q.val) :
    val_main_v27 (F := Ideal) x ft ab (ix2 i k) = group x ft ab s (ix2 i q) := by
  obtain ⟨h, e⟩ := v27_parts x ft ab
  rw [e]
  refine concatenate_apply_piece 1 (parts x ft ab) h (ix2 i k) s.val (by
      have := s.isLt
      simp only [parts, List.length_append, List.length_ofFn, List.length_singleton]
      omega) S16384x100 (group x ft ab s) ?_ rfl (100 * s.val) ?_ (ix2 i q) (fun b hb => ?_) ?_
  · unfold parts
    rw [List.getElem_append_left (by rw [List.length_ofFn]; exact s.isLt), List.getElem_ofFn]
  · fin_cases s <;> rfl
  · match b with
    | ⟨0, _⟩ => rfl
    | ⟨1, _⟩ => exact absurd rfl hb
  · show 100 * s.val + q.val = k.val
    omega

/-- Columns 800 to 815 of the feature rows are the dense columns. -/
theorem v27_dense (q : Fin 16) (i : Fin 16384) (k : Fin 816) (hk : k.val = 800 + q.val) :
    val_main_v27 (F := Ideal) x ft ab (ix2 i k) = x (ix2 i ⟨8 + q.val, by omega⟩) := by
  obtain ⟨h, e⟩ := v27_parts x ft ab
  rw [e]
  refine (concatenate_apply_piece 1 (parts x ft ab) h (ix2 i k) 8 (by simp [parts]) S16384x16 (denseCols x) rfl rfl 800 rfl (ix2 i q)
    (fun b hb => ?_) ?_).trans ?_
  · match b with
    | ⟨0, _⟩ => rfl
    | ⟨1, _⟩ => exact absurd rfl hb
  · show 800 + q.val = k.val
    omega
  · exact extractStridedSlice_apply ![0, 8] x _ (ix2 i q) (ix2 i ⟨8 + q.val, by omega⟩) (fun a => match a with
      | ⟨0, _⟩ => by show i.val = 0 + i.val; omega
      | ⟨1, _⟩ => rfl)

/-- A number that is a whole number below `n`, and converts to it. -/
def Whole (n : ℕ) (v : EReal) : Prop :=
  ∃ p : Fin n, v = (((p.val : ℕ) : ℝ) : EReal) ∧ FloatOps.fptosi (F := Ideal) (φ := .f32) 32 v = BitVec.ofNat 32 p.val

/-- The first eight columns hold positions inside the tables: whole numbers below 38 in the first two, below 241 in the
    other six. -/
structure Positions : Prop where
  fighter : ∀ (i : Fin 16384) (s : Fin 24), s.val < 2 → Whole 38 (x (ix2 i s))
  ability : ∀ (i : Fin 16384) (s : Fin 24), 2 ≤ s.val → s.val < 8 → Whole 241 (x (ix2 i s))

/-- **The reference's feature row is the sample's feature row**, where the positions are inside the tables. -/
theorem v27_apply (H : Positions x) (i : Fin 16384) (k : Fin 816) :
    val_main_v27 (F := Ideal) x ft ab (ix2 i k)
      = feat (fun p q => ft (ix2 p q)) (fun p q => ab (ix2 p q)) (fun s => x (ix2 i s)) k := by
  by_cases hk : k.val < 800
  · have hk' : k.val = 100 * (k.val / 100) + k.val % 100 := by omega
    rw [v27_group x ft ab ⟨k.val / 100, by omega⟩ ⟨k.val % 100, by omega⟩ i k hk']
    unfold group
    by_cases hs : k.val / 100 < 2
    · obtain ⟨p, hv, hc⟩ := H.fighter i ⟨k.val / 100, by omega⟩ hs
      rw [if_pos hs, feat_fighter ⟨k.val / 100, by omega⟩ ⟨k.val % 100, by omega⟩ hs hk', pick_of_eq _ p hv]
      exact lookup_apply _ ft (by norm_num) ((position_apply x _ i).trans hc) _
    · obtain ⟨p, hv, hc⟩ := H.ability i ⟨k.val / 100, by omega⟩ (by dsimp only; omega) (by dsimp only; omega)
      rw [if_neg hs, feat_ability ⟨k.val / 100, by omega⟩ ⟨k.val % 100, by omega⟩ ⟨by dsimp only; omega, by dsimp only; omega⟩ hk',
        pick_of_eq _ p hv]
      exact lookup_apply _ ab (by norm_num) ((position_apply x _ i).trans hc) _
  · rw [v27_dense x ft ab ⟨k.val - 800, by omega⟩ i k (by dsimp only; omega),
      feat_dense ⟨k.val - 800, by omega⟩ (by dsimp only; omega)]

end Cert.Fight

end
-- ==== Proof.Reference.lean ====
/- What the reference computes: at every sample the network's two results, with the reference's activation, where the
   sample's positions are inside the tables. -/
module

public import proofs.«01_k».proof.Proof.ReferenceFeat

@[expose] public section

set_option maxRecDepth 16384

noncomputable section

open Idealize.ShloMosaic
open Cert.ReferenceIdeal Cert.ReferenceIdeal.Gen Cert.ReferenceIdeal.Read

namespace Cert.Fight

/-- A sum of products read off two arrays at a row and a column, plus a bias, is a dense layer. -/
theorem dense_of {n m : ℕ} (z : Fin n → EReal) (W : Fin m → Fin n → EReal) (b : Fin m → EReal) (j : Fin m)
    {a w : Fin n → EReal} {c : EReal} (ha : ∀ k, a k = z k) (hw : ∀ k, w k = W j k) (hc : c = b j) :
    (∑ k : Fin n, a k * w k) + c = dense z W b j := by
  unfold dense
  rw [hc]
  exact congrArg (· + b j) (Finset.sum_congr rfl fun k _ => by rw [ha, hw])

/-- The f32 pattern of `1` denotes one. -/
theorem one_pat : Ideal.ofBits .f32 0x3F800000#32 = 1 := by
  simp [Ideal.ofBits, Ideal.ieee]
  rw [← EReal.coe_mul]
  norm_num

/-- The f32 pattern of `0` denotes zero. -/
theorem zero_pat : Ideal.ofBits .f32 0x00000000#32 = 0 := by
  simp [Ideal.ofBits, Ideal.ieee]

variable (A : Args) (H : Positions A.x) (i : Fin 16384)
include H

/-- The first hidden row. -/
theorem v33_apply (j : Fin 512) :
    val_main_v33 (F := Ideal) A.x A.ft A.ab A.W1 A.b1 (ix2 i j) = hid1 A.net (A.row i) j := by
  rw [val_main_v33_apply, val_main_v32_apply, val_main_v29_apply, val_main_v31_apply, val_main_v30_apply]
  rw [Ideal.hostUnary_tanh_def, Ideal.addf_def]
  unfold hid1
  refine congrArg Ideal.tanh (?_ : _ + _ = dense _ _ _ _)
  refine dense_of _ _ _ j (fun k => ?_) (fun k => ?_) ?_
  · rw [show lidx_main_v29 (ix2 i j) k = ix2 i k from idx2_ext rfl rfl]
    exact v27_apply A.x A.ft A.ab H i k
  · rw [val_main_v28_apply]
    exact congrArg A.W1 (idx2_ext rfl rfl)
  · exact congrArg A.b1 (idx1_ext rfl)

/-- The argument of the second layer's activation. -/
theorem v38_apply (j : Fin 256) :
    val_main_v38 (F := Ideal) A.x A.ft A.ab A.W1 A.b1 A.W2 A.b2 (ix2 i j) = arg2 A.net (A.row i) j := by
  rw [val_main_v38_apply, val_main_v35_apply, val_main_v37_apply, val_main_v36_apply]
  refine dense_of _ _ _ j (fun k => ?_) (fun k => ?_) ?_
  · rw [show lidx_main_v35 (ix2 i j) k = ix2 i k from idx2_ext rfl rfl]
    exact v33_apply A H i k
  · rw [val_main_v34_apply]
    exact congrArg A.W2 (idx2_ext rfl rfl)
  · exact congrArg A.b2 (idx1_ext rfl)

/-- The second layer's activation. -/
theorem v41_apply (j : Fin 256) :
    val_main_v41 (F := Ideal) A.x A.ft A.ab A.W1 A.b1 A.W2 A.b2 (ix2 i j) = mishR (arg2 A.net (A.row i) j) := by
  rw [← v38_apply A H i j]
  unfold val_main_v41 val_main_v40 val_main_v39 val_main_call8_v11 val_main_call8_v10 val_main_call8_v9 val_main_call8_v8
    val_main_call8_v7 val_main_call8_v6 val_main_call8_v4 val_main_call8_v3 val_main_call8_v1
  generalize val_main_v38 (F := Ideal) A.x A.ft A.ab A.W1 A.b1 A.W2 A.b2 = y
  unfold mishR softplus
  rw [← zero_pat]
  rfl

/-- The argument of the win head's activation. -/
theorem v46_apply (j : Fin 128) :
    val_main_v46 (F := Ideal) A.x A.ft A.ab A.W1 A.b1 A.W2 A.b2 A.Ww A.bw (ix2 i j) = argW A.net mishR (A.row i) j := by
  rw [val_main_v46_apply, val_main_v43_apply, val_main_v45_apply, val_main_v44_apply]
  refine dense_of _ _ _ j (fun k => ?_) (fun k => ?_) ?_
  · rw [show lidx_main_v43 (ix2 i j) k = ix2 i k from idx2_ext rfl rfl]
    exact v41_apply A H i k
  · rw [val_main_v42_apply]
    exact congrArg A.Ww (idx2_ext rfl rfl)
  · exact congrArg A.bw (idx1_ext rfl)

/-- The win head's activation. -/
theorem v49_apply (j : Fin 128) :
    val_main_v49 (F := Ideal) A.x A.ft A.ab A.W1 A.b1 A.W2 A.b2 A.Ww A.bw (ix2 i j) = mishR (argW A.net mishR (A.row i) j) := by
  rw [← v46_apply A H i j]
  unfold val_main_v49 val_main_v48 val_main_v47 val_main_call9_v11 val_main_call9_v10 val_main_call9_v9 val_main_call9_v8
    val_main_call9_v7 val_main_call9_v6 val_main_call9_v4 val_main_call9_v3 val_main_call9_v1
  generalize val_main_v46 (F := Ideal) A.x A.ft A.ab A.W1 A.b1 A.W2 A.b2 A.Ww A.bw = y
  unfold mishR softplus
  rw [← zero_pat]
  rfl

/-- The argument of the advantage head's activation. -/
theorem v54_apply (j : Fin 128) :
    val_main_v54 (F := Ideal) A.x A.ft A.ab A.W1 A.b1 A.W2 A.b2 A.Wa A.ba (ix2 i j) = argA A.net mishR (A.row i) j := by
  rw [val_main_v54_apply, val_main_v51_apply, val_main_v53_apply, val_main_v52_apply]
  refine dense_of _ _ _ j (fun k => ?_) (fun k => ?_) ?_
  · rw [show lidx_main_v51 (ix2 i j) k = ix2 i k from idx2_ext rfl rfl]
    exact v41_apply A H i k
  · rw [val_main_v50_apply]
    exact congrArg A.Wa (idx2_ext rfl rfl)
  · exact congrArg A.ba (idx1_ext rfl)

/-- The advantage head's activation. -/
theorem v57_apply (j : Fin 128) :
    val_main_v57 (F := Ideal) A.x A.ft A.ab A.W1 A.b1 A.W2 A.b2 A.Wa A.ba (ix2 i j) = mishR (argA A.net mishR (A.row i) j) := by
  rw [← v54_apply A H i j]
  unfold val_main_v57 val_main_v56 val_main_v55 val_main_call10_v11 val_main_call10_v10 val_main_call10_v9 val_main_call10_v8
    val_main_call10_v7 val_main_call10_v6 val_main_call10_v4 val_main_call10_v3 val_main_call10_v1
  generalize val_main_v54 (F := Ideal) A.x A.ft A.ab A.W1 A.b1 A.W2 A.b2 A.Wa A.ba = y
  unfold mishR softplus
  rw [← zero_pat]
  rfl

/-- The argument of the win head's logistic function. -/
theorem v62_apply :
    val_main_v62 (F := Ideal) A.x A.ft A.ab A.W1 A.b1 A.W2 A.b2 A.Ww A.bw A.Vw A.cw (ix2 i 0) = dense (fun k => mishR (argW A.net mishR (A.row i) k)) A.net.Vw A.net.cw 0 := by
  rw [val_main_v62_apply, val_main_v59_apply, val_main_v61_apply, val_main_v60_apply]
  refine dense_of _ _ _ 0 (fun k => ?_) (fun k => ?_) ?_
  · rw [show lidx_main_v59 (ix2 i 0) k = ix2 i k from idx2_ext rfl rfl]
    exact v49_apply A H i k
  · rw [val_main_v58_apply]
    exact congrArg A.Vw (idx2_ext rfl rfl)
  · exact congrArg A.cw (idx1_ext rfl)

/-- The argument of the advantage head's `tanh`. -/
theorem v73_apply :
    val_main_v73 (F := Ideal) A.x A.ft A.ab A.W1 A.b1 A.W2 A.b2 A.Wa A.ba A.Va A.ca (ix2 i 0) = dense (fun k => mishR (argA A.net mishR (A.row i) k)) A.net.Va A.net.ca 0 := by
  rw [val_main_v73_apply, val_main_v70_apply, val_main_v72_apply, val_main_v71_apply]
  refine dense_of _ _ _ 0 (fun k => ?_) (fun k => ?_) ?_
  · rw [show lidx_main_v70 (ix2 i 0) k = ix2 i k from idx2_ext rfl rfl]
    exact v57_apply A H i k
  · rw [val_main_v69_apply]
    exact congrArg A.Va (idx2_ext rfl rfl)
  · exact congrArg A.ca (idx1_ext rfl)

/-- **The reference's win probabilities.** -/
theorem v68_apply : val_main_v68 (F := Ideal) A.x A.ft A.ab A.W1 A.b1 A.W2 A.b2 A.Ww A.bw A.Vw A.cw (ix2 i 0) = A.win mishR i := by
  unfold Args.win win
  rw [← v62_apply A H i]
  unfold val_main_v68 val_main_v66 val_main_v64 val_main_v63
  generalize val_main_v62 (F := Ideal) A.x A.ft A.ab A.W1 A.b1 A.W2 A.b2 A.Ww A.bw A.Vw A.cw = y
  show Ideal.div (Ideal.ofBits .f32 0x3F800000#32)
    (Ideal.ofBits .f32 0x3F800000#32 + Ideal.exp (-(y (ix2 i 0)))) = Ideal.logistic (y (ix2 i 0))
  rw [one_pat]
  rfl

/-- **The reference's advantages.** -/
theorem v74_apply : val_main_v74 (F := Ideal) A.x A.ft A.ab A.W1 A.b1 A.W2 A.b2 A.Wa A.ba A.Va A.ca (ix2 i 0) = A.adv mishR i := by
  rw [val_main_v74_apply, Ideal.hostUnary_tanh_def, v73_apply A H i]
  rfl

end Cert.Fight

end
-- ==== Proof.ReferenceRun.lean ====
/- The reference's run: its arguments end unchanged and its counters at zero, and its two results are columns with one
   entry per sample. -/
module

public import proofs.«01_k».proof.Proof.Reference
public import proofs.«01_k».proof.Proof.Gen.ReferenceIdeal.Run
public import Idealize.ShloMosaic.Adequacy
public import Idealize.ShloMosaic.Init

@[expose] public section

set_option maxRecDepth 16384

noncomputable section

open Idealize.ShloMosaic Idealize.SL.Sem
open Cert.ReferenceIdeal Cert.ReferenceIdeal.Gen Cert.ReferenceIdeal.Read

namespace Cert.Fight

variable (m : (ℓ : Loc nD τ sig) → Buf (Elt Ideal) ℓ) (ρ : Dev nD → PrngReg)

/-- The reference's arguments on a device. -/
def rArgs (c : Dev nD) : Args where
  x := m ((c.tc : Thread nD τ).loc main_arg0)
  ft := m ((c.tc : Thread nD τ).loc main_arg1)
  ab := m ((c.tc : Thread nD τ).loc main_arg2)
  W1 := m ((c.tc : Thread nD τ).loc main_arg3)
  b1 := m ((c.tc : Thread nD τ).loc main_arg4)
  W2 := m ((c.tc : Thread nD τ).loc main_arg5)
  b2 := m ((c.tc : Thread nD τ).loc main_arg6)
  Ww := m ((c.tc : Thread nD τ).loc main_arg7)
  bw := m ((c.tc : Thread nD τ).loc main_arg8)
  Wa := m ((c.tc : Thread nD τ).loc main_arg9)
  ba := m ((c.tc : Thread nD τ).loc main_arg10)
  Vw := m ((c.tc : Thread nD τ).loc main_arg11)
  cw := m ((c.tc : Thread nD τ).loc main_arg12)
  Va := m ((c.tc : Thread nD τ).loc main_arg13)
  ca := m ((c.tc : Thread nD τ).loc main_arg14)

/-- The arguments end unchanged, and every counter ends at zero. -/
theorem reference_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
    ∧ r.2.sem = fun _ => 0) :=
  (θ_run defs _ _).mono (fun r h => ⟨fun c => (h c).2.2, sem_eq_zero_of_no_sems (by decide) r.2⟩) (Value.run m ρ)

/-- **Where the positions are inside the tables, the results are the network's, with the reference's activation.** -/
theorem reference_run (H : ∀ c, Positions (rArgs m c).x) :
    θ_run defs (onTc (τ := τ) (main (F := Ideal))) ⟨m, fun _ => 0, ρ⟩ (fun r => ∀ c : Dev nD,
      r.2.mem ((c.tc : Thread nD τ).loc main_v68) = (fun z : S16384x1.Idx => (rArgs m c).win mishR (z 0))
      ∧ r.2.mem ((c.tc : Thread nD τ).loc main_v74) = (fun z : S16384x1.Idx => (rArgs m c).adv mishR (z 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  have one : ∀ z : S16384x1.Idx, z = ix2 (z 0) 0 := fun z =>
    idx2_ext rfl (by have := (z 1).isLt; change (z 1).val < 1 at this; show (z 1).val = 0; omega)
  refine (θ_run defs _ _).mono (fun r h c => ⟨((h c).1.trans (val_main_v68_eq (StableHlo.launchContents m c))).trans ?_,
    ((h c).2.1.trans (val_main_v74_eq (StableHlo.launchContents m c))).trans ?_, (h c).2.2⟩) (Value.run m ρ)
  · funext z
    rw [one z]
    exact v68_apply (rArgs m c) (H c) (z 0)
  · funext z
    rw [one z]
    exact v74_apply (rArgs m c) (H c) (z 0)

end Cert.Fight

end
-- ==== Proof.Precondition.lean ====
/- What the precondition says: the positions are inside the tables, and the activations' arguments are at most twenty. -/
module

public import proofs.«01_k».proof.Proof.Reference
public import proofs.«01_k».proof.Proof.Gen.Pre_in_domain

@[expose] public section

set_option maxRecDepth 16384

noncomputable section

open Idealize.ShloMosaic
open Cert.ReferenceIdeal Cert.ReferenceIdeal.Gen Cert.ReferenceIdeal.Read

namespace Cert.Fight

attribute [local instance] Cert.Pre_in_domain.Gen.facts

variable (A : Args)

/-- The predicate's table rows are the reference's. -/
theorem pre_part1 : Pre_in_domain.fn (F := Ideal) A.x A.ft A.ab A.W1 A.b1 A.W2 A.b2 A.Ww A.bw A.Wa A.ba A.Vw A.cw A.Va A.ca
    = Pre_in_domain.fn_part1 (F := Ideal) A.x A.ab A.W1 A.b1 A.W2 A.b2 A.Ww A.bw A.Wa A.ba (val_main_v1 (F := Ideal) A.x)
      (val_main_v4 (F := Ideal) A.x A.ft) (val_main_v7 (F := Ideal) A.x A.ft) (val_main_v10 (F := Ideal) A.x A.ab)
      (val_main_v13 (F := Ideal) A.x A.ab) (val_main_v16 (F := Ideal) A.x A.ab) (val_main_v19 (F := Ideal) A.x A.ab)
      (val_main_v22 (F := Ideal) A.x A.ab) (val_main_v23 (F := Ideal) A.x) := rfl

/-- Its activations' arguments are the reference's. -/
theorem pre_part2 : Pre_in_domain.fn_part1 (F := Ideal) A.x A.ab A.W1 A.b1 A.W2 A.b2 A.Ww A.bw A.Wa A.ba (val_main_v1 (F := Ideal) A.x)
      (val_main_v4 (F := Ideal) A.x A.ft) (val_main_v7 (F := Ideal) A.x A.ft) (val_main_v10 (F := Ideal) A.x A.ab)
      (val_main_v13 (F := Ideal) A.x A.ab) (val_main_v16 (F := Ideal) A.x A.ab) (val_main_v19 (F := Ideal) A.x A.ab)
      (val_main_v22 (F := Ideal) A.x A.ab) (val_main_v23 (F := Ideal) A.x)
    = Pre_in_domain.fn_part2 (F := Ideal) A.x A.ba (val_main_v1 (F := Ideal) A.x)
      (val_main_v38 (F := Ideal) A.x A.ft A.ab A.W1 A.b1 A.W2 A.b2)
      (val_main_v41 (F := Ideal) A.x A.ft A.ab A.W1 A.b1 A.W2 A.b2)
      (val_main_v46 (F := Ideal) A.x A.ft A.ab A.W1 A.b1 A.W2 A.b2 A.Ww A.bw) (val_main_v50 (F := Ideal) A.Wa) := rfl

/-- Which of the first eight columns are whole numbers and not negative. -/
def sound (x : FVec Ideal S16384x24 .f32) : IVec S16384x8 1 :=
  andi (cmpf (F := Ideal) (φ := .f32) .oeq (val_main_v0 (F := Ideal) x) (sitofp .f32 (val_main_v1 (F := Ideal) x)))
    (cmpi .sge (val_main_v1 (F := Ideal) x) fun _ => 0#32)

/-- Which of the `w` columns from `o` on are, moreover, below `b`. -/
def below (o w : ℕ) (b : BitVec 32) (h : S16384x8.Slices ![0, o] ⟨2, ![16384, w]⟩) (x : FVec Ideal S16384x24 .f32) :
    IVec ⟨2, ![16384, w]⟩ 1 :=
  andi (extractStridedSlice ⟨2, ![16384, w]⟩ ![0, o] (sound x) h)
    (cmpi .slt (extractStridedSlice ⟨2, ![16384, w]⟩ ![0, o] (val_main_v1 (F := Ideal) x) h) fun _ => b)

/-- Which entries of an array are at most twenty. -/
def atMost {w : ℕ} (y : FVec Ideal ⟨2, ![16384, w]⟩ .f32) : IVec ⟨2, ![16384, w]⟩ 1 :=
  cmpf .ole y fun _ => Ideal.ofBits .f32 0x41A00000#32

/-- The predicate's five groups of flags. -/
def flags : List ((s : Shape) × (s.Idx → BitVec 1)) :=
  [⟨⟨2, ![16384, 2]⟩, below 0 2 38#32 (by decide) A.x⟩, ⟨⟨2, ![16384, 6]⟩, below 2 6 241#32 (by decide) A.x⟩,
    ⟨S16384x256, atMost (val_main_v38 (F := Ideal) A.x A.ft A.ab A.W1 A.b1 A.W2 A.b2)⟩,
    ⟨S16384x128, atMost (val_main_v46 (F := Ideal) A.x A.ft A.ab A.W1 A.b1 A.W2 A.b2 A.Ww A.bw)⟩,
    ⟨S16384x128, atMost (val_main_v54 (F := Ideal) A.x A.ft A.ab A.W1 A.b1 A.W2 A.b2 A.Wa A.ba)⟩]

/-- The predicate is its flags joined. -/
theorem pre_flags : ∃ h, Pre_in_domain.fn (F := Ideal) A.x A.ft A.ab A.W1 A.b1 A.W2 A.b2 A.Ww A.bw A.Wa A.ba A.Vw A.cw A.Va A.ca
    = concatenate Pre_in_domain.S16384x520 1 (flags A) h := by
  rw [pre_part1, pre_part2]
  exact ⟨Pre_in_domain.Gen.facts.concatenates_S16384x2_S16384x6_S16384x256_S16384x128_S16384x128_S16384x520_d1, rfl⟩

/-- The predicate holds of the arguments. -/
def Holds : Prop :=
  Pre_in_domain.fn (F := Ideal) A.x A.ft A.ab A.W1 A.b1 A.W2 A.b2 A.Ww A.bw A.Wa A.ba A.Vw A.cw A.Va A.ca = fun _ => 1#1

/-- Where the predicate holds, every flag is set. -/
theorem flag_set (P : Holds A) (k pre w : ℕ) (f : IVec ⟨2, ![16384, w]⟩ 1) (hk : k < 5)
    (hf : (flags A)[k]'hk = ⟨⟨2, ![16384, w]⟩, f⟩) (hw : pre + w ≤ 520)
    (hpre : ((((flags A).take k).map (·.1)).map fun s => if h : s.rank = 2 then s.size ((1 : Fin 2).cast h.symm) else 0).sum = pre)
    (i : Fin 16384) (q : Fin w) : f (ix2 i q) = 1#1 := by
  obtain ⟨h, e⟩ := pre_flags A
  have hq := q.isLt
  have hc := congrFun (e.symm.trans P) (ix2 i ⟨pre + q.val, by omega⟩)
  rw [← hc]
  refine (concatenate_apply_piece 1 (flags A) h _ k hk ⟨2, ![16384, w]⟩ f hf rfl pre hpre (ix2 i q) (fun b hb => ?_) rfl).symm
  match b with
  | ⟨0, _⟩ => rfl
  | ⟨1, _⟩ => exact absurd rfl hb

/-- Two set flags from their conjunction. -/
theorem andi_set {a b : BitVec 1} (h : IntOp.andi a b = 1#1) : a = 1#1 ∧ b = 1#1 := by
  revert a b
  decide

/-- What a set flag decides. -/
theorem of_flag {p : Prop} [Decidable p] (h : BitVec.ofBool (decide p) = 1#1) : p := by
  by_contra hp
  rw [decide_eq_false hp] at h
  exact absurd h (by decide)

/-- An entry at most twenty, from its flag. -/
theorem atMost_set {w : ℕ} {y : FVec Ideal ⟨2, ![16384, w]⟩ .f32} {i : Fin 16384} {q : Fin w} (h : atMost y (ix2 i q) = 1#1) :
    y (ix2 i q) ≤ ((20 : ℝ) : EReal) := by
  rw [← twenty_pat]
  have h' : BitVec.ofBool (decide (y (ix2 i q) ≤ Ideal.ofBits .f32 0x41A00000#32)) = 1#1 := h
  exact of_flag h'

/-- A whole number below `n`, from its flag. -/
theorem below_set {o w n : ℕ} (hn : n < 1000) (hs : S16384x8.Slices ![0, o] ⟨2, ![16384, w]⟩) {x : FVec Ideal S16384x24 .f32}
    {i : Fin 16384} {q : Fin w} (ho : o + w ≤ 8) (h : below o w (BitVec.ofNat 32 n) hs x (ix2 i q) = 1#1) :
    Whole n (x (ix2 i ⟨o + q.val, by omega⟩)) := by
  have hq := q.isLt
  obtain ⟨h1, h2⟩ := andi_set h
  have cut : ∀ {α : Type} (v : S16384x8.Idx → α), extractStridedSlice ⟨2, ![16384, w]⟩ ![0, o] v hs (ix2 i q)
      = v (ix2 i ⟨o + q.val, by omega⟩) := fun v =>
    extractStridedSlice_apply ![0, o] v hs (ix2 i q) _ (fun a => match a with
      | ⟨0, _⟩ => by show i.val = 0 + i.val; omega
      | ⟨1, _⟩ => rfl)
  rw [cut] at h1
  have h2' : IntOp.cmpi .slt (extractStridedSlice ⟨2, ![16384, w]⟩ ![0, o] (val_main_v1 (F := Ideal) x) hs (ix2 i q))
    (BitVec.ofNat 32 n) = 1#1 := h2
  rw [cut, val_main_v1_apply] at h2'
  obtain ⟨h3, h4⟩ := andi_set h1
  have h3' : BitVec.ofBool (decide (val_main_v0 (F := Ideal) x (ix2 i ⟨o + q.val, by omega⟩)
    = (((val_main_v1 (F := Ideal) x (ix2 i ⟨o + q.val, by omega⟩)).toInt : ℝ) : EReal))) = 1#1 := h3
  have h4' : IntOp.cmpi .sge (val_main_v1 (F := Ideal) x (ix2 i ⟨o + q.val, by omega⟩)) 0#32 = 1#1 := h4
  rw [val_main_v1_apply] at h3' h4'
  have hv : val_main_v0 (F := Ideal) x (ix2 i ⟨o + q.val, by omega⟩) = x (ix2 i ⟨o + q.val, by omega⟩) := by
    rw [val_main_v0_apply]
    exact congrArg x (idx2_ext rfl rfl)
  rw [hv] at h2' h3' h4'
  rw [IntOp.cmpi_slt, toInt_ofNat hn] at h2'
  rw [IntOp.cmpi_sge] at h4'
  generalize x (ix2 i ⟨o + q.val, by omega⟩) = v at h2' h3' h4' ⊢
  unfold Whole
  generalize FloatOps.fptosi (F := Ideal) (φ := .f32) 32 v = b at h2' h3' h4' ⊢
  have h0 : 0 ≤ b.toInt := h4'
  have e : v = ((b.toInt : ℝ) : EReal) := of_flag h3'
  have hb : ((b.toInt.toNat : ℕ) : ℤ) = b.toInt := Int.toNat_of_nonneg h0
  refine ⟨⟨b.toInt.toNat, by omega⟩, ?_, ?_⟩
  · rw [e]
    congr 1
    exact_mod_cast hb.symm
  · refine BitVec.eq_of_toInt_eq ?_
    rw [toInt_ofNat (by dsimp only; omega)]
    exact hb.symm

variable {A}

/-- **The positions are inside their tables.** -/
theorem Holds.positions (P : Holds A) : Positions A.x where
  fighter i s hs := by
    have h := below_set (by norm_num) (by decide) (by norm_num) (flag_set A P 0 0 2 _ (by decide) rfl (by decide) rfl i ⟨s.val, hs⟩)
    rwa [show (⟨0 + s.val, _⟩ : Fin 24) = s from Fin.ext (Nat.zero_add _)] at h
  ability i s h2 h8 := by
    have h := below_set (by norm_num) (by decide) (by norm_num)
      (flag_set A P 1 2 6 _ (by decide) rfl (by decide) rfl i ⟨s.val - 2, by omega⟩)
    rwa [show (⟨2 + (s.val - 2), _⟩ : Fin 24) = s from Fin.ext (by dsimp only; omega)] at h

/-- **The second layer's arguments are at most twenty.** -/
theorem Holds.arg2_le (P : Holds A) (i : Fin 16384) (k : Fin 256) : arg2 A.net (A.row i) k ≤ ((20 : ℝ) : EReal) := by
  rw [← v38_apply A P.positions i k]
  exact atMost_set (flag_set A P 2 8 256 _ (by decide) rfl (by decide) rfl i k)

/-- **The win head's arguments are at most twenty.** -/
theorem Holds.argW_le (P : Holds A) (i : Fin 16384) (k : Fin 128) : argW A.net mishR (A.row i) k ≤ ((20 : ℝ) : EReal) := by
  rw [← v46_apply A P.positions i k]
  exact atMost_set (flag_set A P 3 264 128 _ (by decide) rfl (by decide) rfl i k)

/-- **The advantage head's arguments are at most twenty.** -/
theorem Holds.argA_le (P : Holds A) (i : Fin 16384) (k : Fin 128) : argA A.net mishR (A.row i) k ≤ ((20 : ℝ) : EReal) := by
  rw [← v54_apply A P.positions i k]
  exact atMost_set (flag_set A P 4 392 128 _ (by decide) rfl (by decide) rfl i k)

/-- **The two activations give the same win probabilities where the predicate holds.** -/
theorem Holds.win_eq (P : Holds A) (i : Fin 16384) : A.win mishK i = A.win mishR i :=
  Fight.win_eq A.net (A.row i) (P.arg2_le i) (P.argW_le i)

/-- **And the same advantages.** -/
theorem Holds.adv_eq (P : Holds A) (i : Fin 16384) : A.adv mishK i = A.adv mishR i :=
  Fight.adv_eq A.net (A.row i) (P.arg2_le i) (P.argA_le i)

end Cert.Fight

end
-- ==== Proof.lean ====
/- The proof of the certificate's claims. The frames are the generated ones and the reference's (Proof/ReferenceRun.lean);
   the value claim joins the kernel's run (Proof/KernelRun.lean) and the reference's, whose results differ only in the
   activation, by the precondition (Proof/Precondition.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_domain
public import proofs.«01_k».proof.Proof.KernelRun
public import proofs.«01_k».proof.Proof.ReferenceRun
public import proofs.«01_k».proof.Proof.Precondition
public import Idealize.ShloMosaic.Adequacy
public import Idealize.ShloMosaic.Init

@[expose] public section

noncomputable section

namespace Cert.Proof

open Idealize.ShloMosaic Idealize.SL.Sem Cert.Fight

/-- The kernel ends with its arguments unchanged and its counters at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- In particular under the precondition. -/
theorem frame_ideal_pre : Cert.quiescent_KernelIdeal_pre_in_domain := fun m ρ _ => Cert.KernelIdeal.Gen.frame m ρ

/-- The reference ends with its arguments unchanged and its counters at zero. -/
theorem frame_reference : Cert.quiescent_ReferenceIdeal := fun m ρ _ => reference_frame m ρ

/-- In particular under the precondition. -/
theorem frame_reference_pre : Cert.quiescent_ReferenceIdeal_pre_in_domain := fun m ρ _ => reference_frame m ρ

/-- **The kernel and the reference compute the same two results.** The shared values are, on every device, the columns of
    the network's win probabilities and advantages with the kernel's activation; by the precondition they are those with
    the reference's. -/
theorem algebraic : Cert.algebraic_KernelIdeal_ReferenceIdeal_pre_in_domain := by
  intro m g m' g' hpre hagree
  have P : ∀ c, Holds (kArgs m c) := hpre
  have e : ∀ c, rArgs m' c = kArgs m c := fun c => by
    obtain ⟨h0, h1, h2, h3, h4, h5, h6, h7, h8, h9, h10, h11, h12, h13, h14⟩ := hagree c
    unfold rArgs kArgs
    congr 1
  refine ⟨fun c => fun z : Cert.KernelIdeal.S16384x1.Idx => (kArgs m c).win mishK (z 0),
    fun c => fun z : Cert.KernelIdeal.S16384x1.Idx => (kArgs m c).adv mishK (z 0), ?_, ?_⟩
  · exact (θ_run _ _ _).mono (fun _ h c => ⟨(h.1 c).1, (h.1 c).2, h.2 c⟩)
      (θ_run_and (kernel_run m g) (Cert.KernelIdeal.Gen.unchanged m g))
  · refine (θ_run _ _ _).mono (fun _ h c => ⟨(h c).1.trans ?_, (h c).2.1.trans ?_, (h c).2.2⟩)
      (reference_run m' g' fun c => (congrArg (fun A : Args => Positions A.x) (e c)).mpr (P c).positions)
    · rw [e c]
      exact funext fun z => ((P c).win_eq (z 0)).symm
    · rw [e c]
      exact funext fun z => ((P c).adv_eq (z 0)).symm

/-- Every claim of the certificate. -/
theorem claim : Cert.Claim :=
  ⟨Cert.Kernel.Gen.facts, Cert.KernelIdeal.Gen.facts, Cert.ReferenceIdeal.Gen.facts, Cert.Pre_in_domain.Gen.facts,
    frame_kernel, frame_ideal, frame_ideal_pre, frame_reference, frame_reference_pre, trivial, algebraic⟩

end Cert.Proof

end
